-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_v32) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
-- ==== Kernel.lean ====
abbrev S8x4096x1024 : Shape := ⟨3, ![8, 4096, 1024]⟩
abbrev S8x4096x512 : Shape := ⟨3, ![8, 4096, 512]⟩
abbrev S32768x2048 : Shape := ⟨2, ![32768, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S32768x1024 : Shape := ⟨2, ![32768, 1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S32768x512 : Shape := ⟨2, ![32768, 512]⟩
abbrev S512x512 : Shape := ⟨2, ![512, 512]⟩
abbrev S512x2048 : Shape := ⟨2, ![512, 2048]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 28
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S32768x2048, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x5632, .f32⟩
  | .hbm, ⟨9, _⟩ => ⟨S1x2816x1024, .f32⟩
  | .hbm, ⟨10, _⟩ => ⟨S1024, .f32⟩
  | .hbm, ⟨11, _⟩ => ⟨S32768x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1024, .f32⟩
  | .hbm, ⟨16, _⟩ => ⟨S1024x5632, .f32⟩
  | .hbm, ⟨17, _⟩ => ⟨S2816x1024, .f32⟩
  | .hbm, ⟨18, _⟩ => ⟨S32768x512, .bf16⟩
  | .hbm, ⟨19, _⟩ => ⟨S32768x512, .bf16⟩
  | .hbm, ⟨20, _⟩ => ⟨S512x1024, .bf16⟩
  | .hbm, ⟨21, _⟩ => ⟨S512x1024, .bf16⟩
  | .hbm, ⟨22, _⟩ => ⟨S1024x1024, .bf16⟩
  | .hbm, ⟨23, _⟩ => ⟨S1x1024, .f32⟩
  | .hbm, ⟨24, _⟩ => ⟨S1024x5632, .bf16⟩
  | .hbm, ⟨25, _⟩ => ⟨S2816x1024, .bf16⟩
  | .hbm, ⟨26, _⟩ => ⟨S1x1024, .f32⟩
  | .hbm, ⟨27, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x5632, .bf16⟩
  | .local _ .vmem, ⟨13, _⟩ => ⟨S2816x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8x4096x1024 : Shape := ⟨3, ![8, 4096, 1024]⟩
abbrev S8x4096x512 : Shape := ⟨3, ![8, 4096, 512]⟩
abbrev S32768x2048 : Shape := ⟨2, ![32768, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S32768x1024 : Shape := ⟨2, ![32768, 1024]⟩
abbrev S32768x512 : Shape := ⟨2, ![32768, 512]⟩
abbrev S512x1024 : Shape := ⟨2, ![512, 1024]⟩
abbrev S_ : Shape := ⟨0, ![]⟩
abbrev S1024x1024 : Shape := ⟨2, ![1024, 1024]⟩
abbrev S32768 : Shape := ⟨1, ![32768]⟩
abbrev S32768x1 : Shape := ⟨2, ![32768, 1]⟩
abbrev S1024x5632 : Shape := ⟨2, ![1024, 5632]⟩
abbrev S32768x5632 : Shape := ⟨2, ![32768, 5632]⟩
abbrev S32768x2816 : Shape := ⟨2, ![32768, 2816]⟩
abbrev S2816x1024 : Shape := ⟨2, ![2816, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S32768x2048, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x5632, .f32⟩
  | .hbm, ⟨9, _⟩ => ⟨S1x2816x1024, .f32⟩
  | .hbm, ⟨10, _⟩ => ⟨S1024, .f32⟩
  | .hbm, ⟨11, _⟩ => ⟨S32768x1024, .f32⟩
  | .hbm, ⟨12, _⟩ => ⟨S8x4096x512, .f32⟩
  | .hbm, ⟨13, _⟩ => ⟨S32768x512, .f32⟩
  | .hbm, ⟨14, _⟩ => ⟨S512x1024, .f32⟩
  | .hbm, ⟨15, _⟩ => ⟨S32768x1024, .f32⟩
  | .hbm, ⟨16, _⟩ => ⟨S8x4096x512, .f32⟩
  | .hbm, ⟨17, _⟩ => ⟨S32768x512, .f32⟩
  | .hbm, ⟨18, _⟩ => ⟨S512x1024, .f32⟩
  | .hbm, ⟨19, _⟩ => ⟨S32768x1024, .f32⟩
  | .hbm, ⟨20, _⟩ => ⟨S32768x2048, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S1024x1024, .f32⟩
  | .hbm, ⟨43, _⟩ => ⟨S32768x1024, .f32⟩
  | .hbm, ⟨44, _⟩ => ⟨S32768x1024, .f32⟩
  | .hbm, ⟨45, _⟩ => ⟨S1024, .f32⟩
  | .hbm, ⟨46, _⟩ => ⟨S32768x1024, .f32⟩
  | .hbm, ⟨47, _⟩ => ⟨S_, .f32⟩
  | .hbm, ⟨48, _⟩ => ⟨S32768, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S32768x1, .f32⟩
  | .hbm, ⟨57, _⟩ => ⟨S32768x1024, .f32⟩
  | .hbm, ⟨58, _⟩ => ⟨S32768x1024, .f32⟩
  | .hbm, ⟨59, _⟩ => ⟨S1x1024, .f32⟩
  | .hbm, ⟨60, _⟩ => ⟨S32768x1024, .f32⟩
  | .hbm, ⟨61, _⟩ => ⟨S32768x1024, .f32⟩
  | .hbm, ⟨62, _⟩ => ⟨S1024x5632, .f32⟩
  | .hbm, ⟨63, _⟩ => ⟨S32768x5632, .f32⟩
  | .hbm, ⟨64, _⟩ => ⟨S32768x2816, .f32⟩
  | .hbm, ⟨65, _⟩ => ⟨S32768x2816, .f32⟩
  | .hbm, ⟨66, _⟩ => ⟨S32768x2816, .f32⟩
  | .hbm, ⟨67, _⟩ => ⟨S32768x2816, .f32⟩
  | .hbm, ⟨68, _⟩ => ⟨S_, .f32⟩
  | .hbm, ⟨69, _⟩ => ⟨S32768x2816, .f32⟩
  | .hbm, ⟨70, _⟩ => ⟨S32768x2816, .f32⟩
  | .hbm, ⟨71, _⟩ => ⟨S_, .f32⟩
  | .hbm, ⟨72, _⟩ => ⟨S32768x2816, .f32⟩
  | .hbm, ⟨73, _⟩ => ⟨S32768x2816, .f32⟩
  | .hbm, ⟨74, _⟩ => ⟨S32768x2816, .f32⟩
  | .hbm, ⟨75, _⟩ => ⟨S32768x2816, .f32⟩
  | .hbm, ⟨76, _⟩ => ⟨S2816x1024, .f32⟩
  | .hbm, ⟨77, _⟩ => ⟨S32768x1024, .f32⟩
  | .hbm, ⟨78, _⟩ => ⟨S32768x1024, .f32⟩
  | .hbm, ⟨79, _⟩ => ⟨S32768x1024, .f32⟩
  | .hbm, ⟨80, _⟩ => ⟨S_, .f32⟩
  | .hbm, ⟨81, _⟩ => ⟨S32768, .f32⟩
  | .hbm, ⟨82, _⟩ => ⟨S32768x1, .f32⟩
  | .hbm, ⟨83, _⟩ => ⟨S_, .f32⟩
  | .hbm, ⟨84, _⟩ => ⟨S32768x1, .f32⟩
  | .hbm, ⟨85, _⟩ => ⟨S32768x1, .f32⟩
  | .hbm, ⟨86, _⟩ => ⟨S_, .f32⟩
  | .hbm, ⟨87, _⟩ => ⟨S32768x1, .f32⟩
  | .hbm, ⟨88, _⟩ => ⟨S32768x1, .f32⟩
  | .hbm, ⟨89, _⟩ => ⟨S32768x1, .f32⟩
  | .hbm, ⟨90, _⟩ => ⟨S32768x1024, .f32⟩
  | .hbm, ⟨91, _⟩ => ⟨S32768x1024, .f32⟩
  | .hbm, ⟨92, _⟩ => ⟨S1x1024, .f32⟩
  | .hbm, ⟨93, _⟩ => ⟨S32768x1024, .f32⟩
  | .hbm, ⟨94, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_6 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_cst_8 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩

abbrev nD : Nat := 1
abbrev τ : Topo := Topo.v7x

variable {F : FTy → Type} [FloatOps F]
-- ==== Kernel2.lean ====
abbrev S8x4096x1024 : Shape := ⟨3, ![8, 4096, 1024]⟩
abbrev S1x1024 : Shape := ⟨2, ![1, 1024]⟩
abbrev S1x1024x5408 : Shape := ⟨3, ![1, 1024, 5408]⟩
abbrev S1x1824 : Shape := ⟨2, ![1, 1824]⟩
abbrev S32768x1024 : Shape := ⟨2, ![32768, 1024]⟩
abbrev S1024 : Shape := ⟨1, ![1024]⟩
abbrev S1024x5408 : Shape := ⟨2, ![1024, 5408]⟩
abbrev S1824 : Shape := ⟨1, ![1824]⟩
abbrev S1024x1824 : Shape := ⟨2, ![1024, 1824]⟩
abbrev S_ : Shape := ⟨0, ![]⟩
abbrev S1024x1920 : Shape := ⟨2, ![1024, 1920]⟩
abbrev S1024x1536 : Shape := ⟨2, ![1024, 1536]⟩
abbrev S1024x2048 : Shape := ⟨2, ![1024, 2048]⟩
abbrev S1920 : Shape := ⟨1, ![1920]⟩
abbrev S1x1920 : Shape := ⟨2, ![1, 1920]⟩
abbrev S32768x1920 : Shape := ⟨2, ![32768, 1920]⟩
abbrev S32768x1536 : Shape := ⟨2, ![32768, 1536]⟩
abbrev S32768x2048 : Shape := ⟨2, ![32768, 2048]⟩
abbrev S1024x1024 : Shape := ⟨2, ![1024, 1024]⟩
abbrev S8x1920 : Shape := ⟨2, ![8, 1920]⟩
abbrev S1024x1 : Shape := ⟨2, ![1024, 1]⟩

abbrev nBuf : Space → Nat
  | .hbm => 25
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5408, .f32⟩
  | .hbm, ⟨3, _⟩ => ⟨S1x1824, .f32⟩
  | .hbm, ⟨4, _⟩ => ⟨S32768x1024, .f32⟩
  | .hbm, ⟨5, _⟩ => ⟨S1024, .f32⟩
  | .hbm, ⟨6, _⟩ => ⟨S1024x5408, .f32⟩
  | .hbm, ⟨7, _⟩ => ⟨S1824, .f32⟩
  | .hbm, ⟨8, _⟩ => ⟨S1024x1824, .f32⟩
  | .hbm, ⟨9, _⟩ => ⟨S1024x1824, .bf16⟩
  | .hbm, ⟨10, _⟩ => ⟨S_, .i32⟩
  | .hbm, ⟨11, _⟩ => ⟨S_, .bf16⟩
  | .hbm, ⟨12, _⟩ => ⟨S1024x1920, .bf16⟩
  | .hbm, ⟨13, _⟩ => ⟨S1024x1536, .f32⟩
  | .hbm, ⟨14, _⟩ => ⟨S1024x1536, .bf16⟩
  | .hbm, ⟨15, _⟩ => ⟨S1024x2048, .f32⟩
  | .hbm, ⟨16, _⟩ => ⟨S1024x2048, .bf16⟩
  | .hbm, ⟨17, _⟩ => ⟨S_, .i32⟩
  | .hbm, ⟨18, _⟩ => ⟨S_, .f32⟩
  | .hbm, ⟨19, _⟩ => ⟨S1920, .f32⟩
  | .hbm, ⟨20, _⟩ => ⟨S1x1920, .f32⟩
  | .hbm, ⟨21, _⟩ => ⟨S1x1024, .f32⟩
  | .hbm, ⟨22, _⟩ => ⟨S32768x1920, .f32⟩
  | .hbm, ⟨23, _⟩ => ⟨S32768x1536, .bf16⟩
  | .hbm, ⟨24, _⟩ => ⟨S32768x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1920, .bf16⟩
  | .local _ .vmem, ⟨4, _⟩ => ⟨S1024x1536, .bf16⟩
  | .local _ .vmem, ⟨5, _⟩ => ⟨S1024x2048, .bf16⟩
  | .local _ .vmem, ⟨6, _⟩ => ⟨S1x1920, .f32⟩
  | .local _ .vmem, ⟨7, _⟩ => ⟨S1024x1920, .f32⟩
  | .local _ .vmem, ⟨8, _⟩ => ⟨S1024x1920, .f32⟩
  | .local _ .vmem, ⟨9, _⟩ => ⟨S1024x1536, .bf16⟩
  | .local _ .vmem, ⟨10, _⟩ => ⟨S1024x1536, .bf16⟩
  | .local _ .vmem, ⟨11, _⟩ => ⟨S1024x2048, .bf16⟩
  | .local _ .vmem, ⟨12, _⟩ => ⟨S1024x2048, .bf16⟩
  | .local _ .vmem, ⟨13, _⟩ => ⟨S8x1920, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x4096x1024 : Shape := ⟨3, ![8, 4096, 1024]⟩
abbrev S1x1024 : Shape := ⟨2, ![1, 1024]⟩
abbrev S1x1024x5408 : Shape := ⟨3, ![1, 1024, 5408]⟩
abbrev S1x1824 : Shape := ⟨2, ![1, 1824]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5408 : Shape := ⟨2, ![1024, 5408]⟩
abbrev S8x4096x5408 : Shape := ⟨3, ![8, 4096, 5408]⟩
abbrev S8x4096x1824 : Shape := ⟨3, ![8, 4096, 1824]⟩
abbrev S8x4096x1536 : Shape := ⟨3, ![8, 4096, 1536]⟩
abbrev S8x4096x2048 : Shape := ⟨3, ![8, 4096, 2048]⟩
abbrev S8x4097x1824 : Shape := ⟨3, ![8, 4097, 1824]⟩
abbrev S1824 : Shape := ⟨1, ![1824]⟩
abbrev S1x1x1824 : Shape := ⟨3, ![1, 1, 1824]⟩
abbrev S32768x1824 : Shape := ⟨2, ![32768, 1824]⟩
abbrev S32768x1920 : Shape := ⟨2, ![32768, 1920]⟩
abbrev S32768x1536 : Shape := ⟨2, ![32768, 1536]⟩
abbrev S32768x2048 : Shape := ⟨2, ![32768, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5408, .f32⟩
  | .hbm, ⟨3, _⟩ => ⟨S1x1824, .f32⟩
  | .hbm, ⟨4, _⟩ => ⟨S1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S1024x5408, .f32⟩
  | .hbm, ⟨22, _⟩ => ⟨S8x4096x5408, .f32⟩
  | .hbm, ⟨23, _⟩ => ⟨S8x4096x1824, .f32⟩
  | .hbm, ⟨24, _⟩ => ⟨S8x4096x1536, .f32⟩
  | .hbm, ⟨25, _⟩ => ⟨S8x4096x2048, .f32⟩
  | .hbm, ⟨26, _⟩ => ⟨S_, .i32⟩
  | .hbm, ⟨27, _⟩ => ⟨S_, .f32⟩
  | .hbm, ⟨28, _⟩ => ⟨S8x4097x1824, .f32⟩
  | .hbm, ⟨29, _⟩ => ⟨S8x4096x1824, .f32⟩
  | .hbm, ⟨30, _⟩ => ⟨S1824, .f32⟩
  | .hbm, ⟨31, _⟩ => ⟨S8x4096x1824, .f32⟩
  | .hbm, ⟨32, _⟩ => ⟨S1x1x1824, .f32⟩
  | .hbm, ⟨33, _⟩ => ⟨S8x4096x1824, .f32⟩
  | .hbm, ⟨34, _⟩ => ⟨S8x4096x1824, .f32⟩
  | .hbm, ⟨35, _⟩ => ⟨S8x4096x1824, .f32⟩
  | .hbm, ⟨36, _⟩ => ⟨S32768x1824, .f32⟩
  | .hbm, ⟨37, _⟩ => ⟨S_, .i32⟩
  | .hbm, ⟨38, _⟩ => ⟨S_, .f32⟩
  | .hbm, ⟨39, _⟩ => ⟨S32768x1920, .f32⟩
  | .hbm, ⟨40, _⟩ => ⟨S32768x1536, .f32⟩
  | .hbm, ⟨41, _⟩ => ⟨S32768x1536, .bf16⟩
  | .hbm, ⟨42, _⟩ => ⟨S32768x2048, .f32⟩
  | .hbm, ⟨43, _⟩ => ⟨S32768x2048, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_2 : Ref sig .tc := ⟨.hbm, 37, rfl⟩
abbrev main_call1_v0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel3.lean ====
abbrev S32768x1920 : Shape := ⟨2, ![32768, 1920]⟩
abbrev S1x512 : Shape := ⟨2, ![1, 512]⟩
abbrev S1x64x512 : Shape := ⟨3, ![1, 64, 512]⟩
abbrev S1x160x512 : Shape := ⟨3, ![1, 160, 512]⟩
abbrev S1x8x64 : Shape := ⟨3, ![1, 8, 64]⟩
abbrev S512 : Shape := ⟨1, ![512]⟩
abbrev S64x512 : Shape := ⟨2, ![64, 512]⟩
abbrev S160x512 : Shape := ⟨2, ![160, 512]⟩
abbrev S8x64 : Shape := ⟨2, ![8, 64]⟩
abbrev S_ : Shape := ⟨0, ![]⟩
abbrev S128x1024 : Shape := ⟨2, ![128, 1024]⟩
abbrev S1 : Shape := ⟨1, ![1]⟩
abbrev S2 : Shape := ⟨1, ![2]⟩
abbrev S256x512 : Shape := ⟨2, ![256, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x4096x1920 : Shape := ⟨3, ![8, 4096, 1920]⟩
abbrev S4x2x4096x1920 : Shape := ⟨4, ![4, 2, 4096, 1920]⟩
abbrev S4x2x4096x512 : Shape := ⟨4, ![4, 2, 4096, 512]⟩
abbrev S4x1x256x1920 : Shape := ⟨4, ![4, 1, 256, 1920]⟩
abbrev S4x1x256x512 : Shape := ⟨4, ![4, 1, 256, 512]⟩
abbrev S4x4x128x128 : Shape := ⟨4, ![4, 4, 128, 128]⟩
abbrev S1x1x256x1920 : Shape := ⟨4, ![1, 1, 256, 1920]⟩
abbrev S256x1920 : Shape := ⟨2, ![256, 1920]⟩
abbrev S256x128 : Shape := ⟨2, ![256, 128]⟩
abbrev S1x128 : Shape := ⟨2, ![1, 128]⟩
abbrev S256x1024 : Shape := ⟨2, ![256, 1024]⟩
abbrev S64x128 : Shape := ⟨2, ![64, 128]⟩
abbrev S128x128 : Shape := ⟨2, ![128, 128]⟩
abbrev S128x256 : Shape := ⟨2, ![128, 256]⟩
abbrev S64x256 : Shape := ⟨2, ![64, 256]⟩
abbrev S1x1x128x128 : Shape := ⟨4, ![1, 1, 128, 128]⟩
abbrev S192x128 : Shape := ⟨2, ![192, 128]⟩
abbrev S1x1x256x512 : Shape := ⟨4, ![1, 1, 256, 512]⟩
abbrev S8x4096x512 : Shape := ⟨3, ![8, 4096, 512]⟩

abbrev nBuf : Space → Nat
  | .hbm => 126
  | .vmem => 16
  | .smem => 0
  | _ => 0

abbrev bufTy : (tb : Table) → Fin (tcTables nBuf tb) → BufTy
  | .hbm, ⟨0, _⟩ => ⟨S32768x1920, .f32⟩
  | .hbm, ⟨1, _⟩ => ⟨S1x512, .f32⟩
  | .hbm, ⟨2, _⟩ => ⟨S1x64x512, .f32⟩
  | .hbm, ⟨3, _⟩ => ⟨S1x512, .f32⟩
  | .hbm, ⟨4, _⟩ => ⟨S1x64x512, .f32⟩
  | .hbm, ⟨5, _⟩ => ⟨S1x160x512, .f32⟩
  | .hbm, ⟨6, _⟩ => ⟨S1x512, .f32⟩
  | .hbm, ⟨7, _⟩ => ⟨S1x512, .f32⟩
  | .hbm, ⟨8, _⟩ => ⟨S1x8x64, .f32⟩
  | .hbm, ⟨9, _⟩ => ⟨S1x512, .f32⟩
  | .hbm, ⟨10, _⟩ => ⟨S1x512, .f32⟩
  | .hbm, ⟨11, _⟩ => ⟨S512, .f32⟩
  | .hbm, ⟨12, _⟩ => ⟨S64x512, .f32⟩
  | .hbm, ⟨13, _⟩ => ⟨S512, .f32⟩
  | .hbm, ⟨14, _⟩ => ⟨S64x512, .f32⟩
  | .hbm, ⟨15, _⟩ => ⟨S160x512, .f32⟩
  | .hbm, ⟨16, _⟩ => ⟨S512, .f32⟩
  | .hbm, ⟨17, _⟩ => ⟨S512, .f32⟩
  | .hbm, ⟨18, _⟩ => ⟨S8x64, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S_, .f32⟩
  | .hbm, ⟨23, _⟩ => ⟨S128x1024, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S128x1024, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S128x1024, .f32⟩
  | .hbm, ⟨36, _⟩ => ⟨S_, .i32⟩
  | .hbm, ⟨37, _⟩ => ⟨S_, .f32⟩
  | .hbm, ⟨38, _⟩ => ⟨S256x512, .f32⟩
  | .hbm, ⟨39, _⟩ => ⟨S256, .i32⟩
  | .hbm, ⟨40, _⟩ => ⟨S_, .i32⟩
  | .hbm, ⟨41, _⟩ => ⟨S_, .i32⟩
  | .hbm, ⟨42, _⟩ => ⟨S256, .i32⟩
  | .hbm, ⟨43, _⟩ => ⟨S256, .i32⟩
  | .hbm, ⟨44, _⟩ => ⟨S256, .i32⟩
  | .hbm, ⟨45, _⟩ => ⟨S_, .i32⟩
  | .hbm, ⟨46, _⟩ => ⟨S256, .i32⟩
  | .hbm, ⟨47, _⟩ => ⟨S256, .i1⟩
  | .hbm, ⟨48, _⟩ => ⟨S256, .i32⟩
  | .hbm, ⟨49, _⟩ => ⟨S256, .i32⟩
  | .hbm, ⟨50, _⟩ => ⟨S_, .i32⟩
  | .hbm, ⟨51, _⟩ => ⟨S256, .i32⟩
  | .hbm, ⟨52, _⟩ => ⟨S256, .i1⟩
  | .hbm, ⟨53, _⟩ => ⟨S256, .i1⟩
  | .hbm, ⟨54, _⟩ => ⟨S_, .i32⟩
  | .hbm, ⟨55, _⟩ => ⟨S256, .i32⟩
  | .hbm, ⟨56, _⟩ => ⟨S256, .i32⟩
  | .hbm, ⟨57, _⟩ => ⟨S256, .i32⟩
  | .hbm, ⟨58, _⟩ => ⟨S256x1, .i32⟩
  | .hbm, ⟨59, _⟩ => ⟨S1x256, .i32⟩
  | .hbm, ⟨60, _⟩ => ⟨S256x256, .i32⟩
  | .hbm, ⟨61, _⟩ => ⟨S256x256, .i32⟩
  | .hbm, ⟨62, _⟩ => ⟨S256x256, .i1⟩
  | .hbm, ⟨63, _⟩ => ⟨S256x256, .bf16⟩
  | .hbm, ⟨64, _⟩ => ⟨S256, .i32⟩
  | .hbm, ⟨65, _⟩ => ⟨S256x1, .i32⟩
  | .hbm, ⟨66, _⟩ => ⟨S1x256, .i32⟩
  | .hbm, ⟨67, _⟩ => ⟨S256x256, .i32⟩
  | .hbm, ⟨68, _⟩ => ⟨S256x256, .i32⟩
  | .hbm, ⟨69, _⟩ => ⟨S256x256, .i1⟩
  | .hbm, ⟨70, _⟩ => ⟨S256x1, .i32⟩
  | .hbm, ⟨71, _⟩ => ⟨S_, .i32⟩
  | .hbm, ⟨72, _⟩ => ⟨S_, .i32⟩
  | .hbm, ⟨73, _⟩ => ⟨S256x1, .i32⟩
  | .hbm, ⟨74, _⟩ => ⟨S256x1, .i32⟩
  | .hbm, ⟨75, _⟩ => ⟨S256x1, .i32⟩
  | .hbm, ⟨76, _⟩ => ⟨S_, .i32⟩
  | .hbm, ⟨77, _⟩ => ⟨S256x1, .i32⟩
  | .hbm, ⟨78, _⟩ => ⟨S256x1, .i1⟩
  | .hbm, ⟨79, _⟩ => ⟨S256x1, .i32⟩
  | .hbm, ⟨80, _⟩ => ⟨S256x1, .i32⟩
  | .hbm, ⟨81, _⟩ => ⟨S_, .i32⟩
  | .hbm, ⟨82, _⟩ => ⟨S256x1, .i32⟩
  | .hbm, ⟨83, _⟩ => ⟨S256x1, .i1⟩
  | .hbm, ⟨84, _⟩ => ⟨S256x1, .i1⟩
  | .hbm, ⟨85, _⟩ => ⟨S_, .i32⟩
  | .hbm, ⟨86, _⟩ => ⟨S256x1, .i32⟩
  | .hbm, ⟨87, _⟩ => ⟨S256x1, .i32⟩
  | .hbm, ⟨88, _⟩ => ⟨S256x1, .i32⟩
  | .hbm, ⟨89, _⟩ => ⟨S1x256, .i32⟩
  | .hbm, ⟨90, _⟩ => ⟨S_, .i32⟩
  | .hbm, ⟨91, _⟩ => ⟨S_, .i32⟩
  | .hbm, ⟨92, _⟩ => ⟨S1x256, .i32⟩
  | .hbm, ⟨93, _⟩ => ⟨S1x256, .i32⟩
  | .hbm, ⟨94, _⟩ => ⟨S1x256, .i32⟩
  | .hbm, ⟨95, _⟩ => ⟨S_, .i32⟩
  | .hbm, ⟨96, _⟩ => ⟨S1x256, .i32⟩
  | .hbm, ⟨97, _⟩ => ⟨S1x256, .i1⟩
  | .hbm, ⟨98, _⟩ => ⟨S1x256, .i32⟩
  | .hbm, ⟨99, _⟩ => ⟨S1x256, .i32⟩
  | .hbm, ⟨100, _⟩ => ⟨S_, .i32⟩
  | .hbm, ⟨101, _⟩ => ⟨S1x256, .i32⟩
  | .hbm, ⟨102, _⟩ => ⟨S1x256, .i1⟩
  | .hbm, ⟨103, _⟩ => ⟨S1x256, .i1⟩
  | .hbm, ⟨104, _⟩ => ⟨S_, .i32⟩
  | .hbm, ⟨105, _⟩ => ⟨S1x256, .i32⟩
  | .hbm, ⟨106, _⟩ => ⟨S1x256, .i32⟩
  | .hbm, ⟨107, _⟩ => ⟨S1x256, .i32⟩
  | .hbm, ⟨108, _⟩ => ⟨S256x256, .i32⟩
  | .hbm, ⟨109, _⟩ => ⟨S256x256, .i32⟩
  | .hbm, ⟨110, _⟩ => ⟨S256x256, .i1⟩
  | .hbm, ⟨111, _⟩ => ⟨S256x256, .i1⟩
  | .hbm, ⟨112, _⟩ => ⟨S256x256, .bf16⟩
  | .hbm, ⟨113, _⟩ => ⟨S8x4096x1920, .f32⟩
  | .hbm, ⟨114, _⟩ => ⟨S1x512, .f32⟩
  | .hbm, ⟨115, _⟩ => ⟨S128x1024, .bf16⟩
  | .hbm, ⟨116, _⟩ => ⟨S1x512, .f32⟩
  | .hbm, ⟨117, _⟩ => ⟨S256x512, .bf16⟩
  | .hbm, ⟨118, _⟩ => ⟨S1x512, .f32⟩
  | .hbm, ⟨119, _⟩ => ⟨S1x512, .f32⟩
  | .hbm, ⟨120, _⟩ => ⟨S1x512, .f32⟩
  | .hbm, ⟨121, _⟩ => ⟨S1x512, .f32⟩
  | .hbm, ⟨122, _⟩ => ⟨S1x512, .f32⟩
  | .hbm, ⟨123, _⟩ => ⟨S4x2x4096x1920, .f32⟩
  | .hbm, ⟨124, _⟩ => ⟨S4x2x4096x512, .bf16⟩
  | .hbm, ⟨125, _⟩ => ⟨S8x4096x512, .bf16⟩
  | .local _ .vmem, ⟨0, _⟩ => ⟨S4x1x256x1920, .f32⟩
  | .local _ .vmem, ⟨1, _⟩ => ⟨S4x1x256x1920, .f32⟩
  | .local _ .vmem, ⟨2, _⟩ => ⟨S1x512, .f32⟩
  | .local _ .vmem, ⟨3, _⟩ => ⟨S128x1024, .bf16⟩
  | .local _ .vmem, ⟨4, _⟩ => ⟨S1x512, .f32⟩
  | .local _ .vmem, ⟨5, _⟩ => ⟨S256x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S256x256, .bf16⟩
  | .local _ .vmem, ⟨12, _⟩ => ⟨S256x256, .bf16⟩
  | .local _ .vmem, ⟨13, _⟩ => ⟨S4x1x256x512, .bf16⟩
  | .local _ .vmem, ⟨14, _⟩ => ⟨S4x1x256x512, .bf16⟩
  | .local _ .vmem, ⟨15, _⟩ => ⟨S4x4x128x128, .f32⟩
  | _, _ => ⟨S32768x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_c_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_call0_v0 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_c_5 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_c : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_0 : Ref sig .tc := ⟨.hbm, 85, rfl⟩
abbrev main_call2_v12 : Ref sig .tc := ⟨.hbm, 86, rfl⟩
abbrev main_call2_v13 : Ref sig .tc := ⟨.hbm, 87, rfl⟩
abbrev main_v36 : Ref sig .tc := ⟨.hbm, 88, rfl⟩
abbrev main_v37 : Ref sig .tc := ⟨.hbm, 89, rfl⟩
abbrev main_c_6 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_c : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_0 : Ref sig .tc := ⟨.hbm, 104, rfl⟩
abbrev main_call3_v12 : Ref sig .tc := ⟨.hbm, 105, rfl⟩
abbrev main_call3_v13 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S4x1x256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S4x1x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Proof.Spec.lean ====
/- The mathematics of the two programs, one token at a time: rows of extended reals, sums over their places. Nothing here
   is about a program. -/
module

public import Idealize.ShloMosaic.Lib.Pointwise

@[expose] public section

noncomputable section

namespace Cert.Hand

open Idealize.ShloMosaic

/-- The word of one half. -/
theorem half_eq : Ideal.ofBits .f32 0x3F000000#32 = ((1 / 2 : ℝ) : EReal) := by
  simp [Ideal.ofBits, Ideal.ieee, -EReal.coe_mul]; norm_num

/-- The word of one. -/
theorem one_eq : Ideal.ofBits .f32 0x3F800000#32 = 1 := by
  simp [Ideal.ofBits, Ideal.ieee, -EReal.coe_mul]; norm_num

/-- Half the hyperbolic tangent of half of a real, plus one half, is the logistic function. -/
theorem half_tanh_real (r : ℝ) : 1 / 2 * Real.tanh (1 / 2 * r) + 1 / 2 = (1 + Real.exp (-r))⁻¹ := by
  have e1 : Real.exp (-r) = Real.exp (-(1 / 2 * r)) * Real.exp (-(1 / 2 * r)) := by
    rw [← Real.exp_add]; congr 1; ring
  have e2 : Real.exp (1 / 2 * r) * Real.exp (-(1 / 2 * r)) = 1 := by
    rw [← Real.exp_add, add_neg_cancel, Real.exp_zero]
  rw [Real.tanh_eq_sinh_div_cosh, Real.sinh_eq, Real.cosh_eq, e1]
  generalize Real.exp (1 / 2 * r) = a at e2
  have hb : 0 < Real.exp (-(1 / 2 * r)) := Real.exp_pos _
  generalize Real.exp (-(1 / 2 * r)) = b at e2 hb
  have ha : 0 < a := by
    by_contra h
    nlinarith [mul_nonpos_of_nonpos_of_nonneg (not_lt.mp h) hb.le]
  have h1 : a + b ≠ 0 := by positivity
  have h2 : 1 + b * b ≠ 0 := by positivity
  field_simp
  linear_combination (2 * b) * e2

/-- Half the hyperbolic tangent of half of `x`, plus one half, is the logistic function of `x`, at the two infinities too. -/
theorem half_tanh (x : EReal) :
    Ideal.ofBits .f32 0x3F000000#32 * Ideal.tanh (Ideal.ofBits .f32 0x3F000000#32 * x) + Ideal.ofBits .f32 0x3F000000#32
      = Ideal.logistic x := by
  rw [half_eq]
  induction x with
  | bot =>
    rw [EReal.coe_mul_bot_of_pos (by norm_num), Ideal.tanh_bot, Ideal.logistic_bot, ← EReal.coe_one, ← EReal.coe_neg,
      ← EReal.coe_mul, ← EReal.coe_add, ← EReal.coe_zero]
    norm_num
  | top =>
    rw [EReal.coe_mul_top_of_pos (by norm_num), Ideal.tanh_top, Ideal.logistic_top, ← EReal.coe_one,
      ← EReal.coe_mul, ← EReal.coe_add]
    norm_num
  | coe r =>
    rw [← EReal.coe_mul, Ideal.tanh_coe, Ideal.logistic_coe, ← EReal.coe_mul, ← EReal.coe_add, half_tanh_real]

/-- A sum over 2816 places added to `a` in three runs of 1024, 1024 and 768 places. -/
theorem sum_chunks (a : EReal) (f : Fin 2816 → EReal) :
    a + (∑ k : Fin 1024, f ⟨k, by omega⟩) + (∑ k : Fin 1024, f ⟨1024 + k, by omega⟩) + (∑ k : Fin 768, f ⟨2048 + k, by omega⟩)
      = a + ∑ k, f k := by
  have h : ∑ k, f k = (∑ k : Fin 1024, f ⟨k, by omega⟩) + (∑ k : Fin 1024, f ⟨1024 + k, by omega⟩)
      + ∑ k : Fin 768, f ⟨2048 + k, by omega⟩ := by
    rw [show (∑ k, f k) = ∑ k : Fin (1024 + 1024 + 768), f k from rfl, Fin.sum_univ_add, Fin.sum_univ_add]
    rfl
  rw [h]; ac_rfl

/-- The root mean square norm of a row, scaled by `g`; the mean is the sum divided by the word of 1024, and the word of
    1e-6 is added to it. -/
def rms (v g : Fin 1024 → EReal) (j : Fin 1024) : EReal :=
  v j * Ideal.rsqrt (Ideal.div (∑ k, v k * v k) (Ideal.ofBits .f32 0x44800000#32) + Ideal.ofBits .f32 0x358637BD#32) * g j

/-- A row times a matrix. -/
def dot {n k : Nat} (v : Fin n → EReal) (w : Fin n → Fin k → EReal) (j : Fin k) : EReal := ∑ i, v i * w i j

/-- The two mixers' rows, each brought to the model's width and weighted by its gate. -/
def mixed (ya yb : Fin 512 → EReal) (g : Fin 2048 → EReal) (wa wb : Fin 512 → Fin 1024 → EReal) (j : Fin 1024) : EReal :=
  Ideal.logistic (g ⟨j, by omega⟩) * dot ya wa j + Ideal.logistic (g ⟨1024 + j, by omega⟩) * dot yb wb j

/-- The gated linear unit: the first half of the projected row through its own logistic, times the second half. -/
def glu (p : Fin 5632 → EReal) (j : Fin 2816) : EReal :=
  p ⟨j, by omega⟩ * Ideal.logistic (p ⟨j, by omega⟩) * p ⟨2816 + j, by omega⟩

/-- The row after the mixers. -/
def mid (x : Fin 1024 → EReal) (ya yb : Fin 512 → EReal) (g : Fin 2048 → EReal) (wa wb : Fin 512 → Fin 1024 → EReal)
    (wo : Fin 1024 → Fin 1024 → EReal) (j : Fin 1024) : EReal :=
  x j + dot (mixed ya yb g wa wb) wo j

/-- The row after the feed-forward part. -/
def ffn (v gf : Fin 1024 → EReal) (wi : Fin 1024 → Fin 5632 → EReal) (wf : Fin 2816 → Fin 1024 → EReal) (j : Fin 1024) : EReal :=
  v j + dot (glu (dot (rms v gf) wi)) wf j

/-- The whole of a token's row after the mixers' outputs. -/
def post (x : Fin 1024 → EReal) (ya yb : Fin 512 → EReal) (g : Fin 2048 → EReal) (wa wb : Fin 512 → Fin 1024 → EReal)
    (wo : Fin 1024 → Fin 1024 → EReal) (gf : Fin 1024 → EReal) (wi : Fin 1024 → Fin 5632 → EReal)
    (wf : Fin 2816 → Fin 1024 → EReal) (go : Fin 1024 → EReal) : Fin 1024 → EReal :=
  rms (ffn (mid x ya yb g wa wb wo) gf wi wf) go

end Cert.Hand

end
-- ==== Proof.PostBlock.lean ====
/- What one grid point of the closing call computes: each row of its block is the row of the mathematics (`Spec.post`). -/
module

public import proofs.«01_k».proof.Proof.Gen.KernelIdeal.Value
public import proofs.«01_k».proof.Proof.Spec

@[expose] public section

noncomputable section

namespace Cert.Hand.Post

open Cert.KernelIdeal Cert.KernelIdeal.Gen Idealize.ShloMosaic Idealize.ShloMosaic.TcCoe Cert.Hand

abbrev V32 (s : Shape) := FVec Ideal s .f32
abbrev V16 (s : Shape) := FVec Ideal s .bf16

/-- Row `r` of the first half of a block, as a row of the block. -/
abbrev lo (r : Fin 256) : Fin 512 := ⟨r, by omega⟩
/-- Row `r` of the second half of a block. -/
abbrev hi (r : Fin 256) : Fin 512 := ⟨256 + r, by omega⟩

/-! ## The payloads at an index -/

theorem p13 (v : V32 S256x1024) (g : V32 S1x1024) (r : Fin 256) (l : Fin 1024) :
    k0_pay13 (F := Ideal) v g (ix2 r l) = rms (fun k => v (ix2 r k)) (fun k => g (ix2 0 k)) l := by
  pointwise [k0_pay13, rms]

theorem p1 (v : V32 S256x1024) (g : V32 S1x1024) (r : Fin 256) (l : Fin 1024) :
    k0_pay1 (F := Ideal) v g (ix2 r l) = rms (fun k => v (ix2 r k)) (fun k => g (ix2 0 k)) l := by
  pointwise [k0_pay1, rms]

theorem p2 (v : V32 S256x1024) (g : V32 S1x1024) (r : Fin 256) (l : Fin 1024) :
    k0_pay2 (F := Ideal) v g (ix2 r l) = rms (fun k => v (ix2 r k)) (fun k => g (ix2 0 k)) l := by
  pointwise [k0_pay2, rms]

theorem p16 (a : V16 S256x1024) (x : V32 S256x1024) (w : V16 S1024x1024) (g : V32 S1x1024) (r : Fin 256) (l : Fin 1024) :
    k0_pay16 (F := Ideal) a x w g (ix2 r l)
      = rms (fun k => k0_pay12 (F := Ideal) a x w (ix2 r k)) (fun k => g (ix2 0 k)) l := by
  pointwise [k0_pay16, rms]

theorem p12 (a : V16 S256x1024) (x : V32 S256x1024) (w : V16 S1024x1024) (r : Fin 256) (l : Fin 1024) :
    k0_pay12 (F := Ideal) a x w (ix2 r l) = x (ix2 r l) + dot (fun k => a (ix2 r k)) (fun i j => w (ix2 i j)) l := by
  pointwise [k0_pay12, dot]

variable (x0 : V32 S512x1024) (x1 x2 : V16 S512x512) (x3 : V16 S512x2048) (x4 x5 : V16 S512x1024) (x6 : V16 S1024x1024)
  (x7 : V32 S1x1024) (x8 : V16 S1024x5632) (x9 : V16 S2816x1024) (x10 : V32 S1x1024)

/-- The row after the mixers, of row `i` of the block. -/
def midRow (i : Fin 512) : Fin 1024 → EReal :=
  mid (fun k => x0 (ix2 i k)) (fun k => x1 (ix2 i k)) (fun k => x2 (ix2 i k)) (fun k => x3 (ix2 i k))
    (fun k l => x4 (ix2 k l)) (fun k l => x5 (ix2 k l)) (fun k l => x6 (ix2 k l))

theorem mid_lo (r : Fin 256) (l : Fin 1024) :
    k0_pay25 (F := Ideal) x0 x1 x2 x3 x4 x5 x6 x7 x8 x9 x10 (ix2 r l) = midRow x0 x1 x2 x3 x4 x5 x6 (lo r) l := by
  pointwise [k0_pay25, k0_pay9, k0_pay3, k0_pay4, k0_pay7, k0_pay8, half_tanh, midRow, mid, mixed, dot]

theorem mid_hi (r : Fin 256) (l : Fin 1024) :
    k0_pay12 (F := Ideal) (k0_pay26 (F := Ideal) x0 x1 x2 x3 x4 x5 x6 x7 x8 x9 x10) (k0_pay27 (F := Ideal) x0 x1 x2 x3 x4 x5 x6 x7 x8 x9 x10)
      (View.ld x6 r0_6) (ix2 r l) = midRow x0 x1 x2 x3 x4 x5 x6 (hi r) l := by
  pointwise [k0_pay12, k0_pay26, k0_pay27, k0_pay10, k0_pay11, k0_pay5, k0_pay6, half_tanh, midRow, mid, mixed, dot]

/-- The normalised row projected, of row `i` of the block. -/
def projRow (i : Fin 512) : Fin 5632 → EReal :=
  dot (rms (midRow x0 x1 x2 x3 x4 x5 x6 i) (fun k => x7 (ix2 0 k))) (fun k l => x8 (ix2 k l))

theorem h_lo (r : Fin 256) (l : Fin 1024) :
    k0_pay28 (F := Ideal) x0 x1 x2 x3 x4 x5 x6 x7 x8 x9 x10 (ix2 r l)
      = rms (midRow x0 x1 x2 x3 x4 x5 x6 (lo r)) (fun k => x7 (ix2 0 k)) l := by
  unfold k0_pay28
  rw [p13]
  simp only [mid_lo]
  pointwise [rms]

theorem h_lo' (r : Fin 256) (l : Fin 1024) :
    k0_pay13 (F := Ideal) (k0_pay25 x0 x1 x2 x3 x4 x5 x6 x7 x8 x9 x10) (View.ld x7 r0_10) (ix2 r l)
      = rms (midRow x0 x1 x2 x3 x4 x5 x6 (lo r)) (fun k => x7 (ix2 0 k)) l :=
  h_lo x0 x1 x2 x3 x4 x5 x6 x7 x8 x9 x10 r l

theorem h_hi (r : Fin 256) (l : Fin 1024) :
    k0_pay29 (F := Ideal) x0 x1 x2 x3 x4 x5 x6 x7 x8 x9 x10 (ix2 r l)
      = rms (midRow x0 x1 x2 x3 x4 x5 x6 (hi r)) (fun k => x7 (ix2 0 k)) l := by
  unfold k0_pay29
  rw [p16]
  simp only [mid_hi]
  pointwise [rms]

/-! ## The feed-forward part, in three runs of columns -/

theorem p17 (v : V32 S256x1024) (a b : V32 S256x1024) (w : V16 S1024x1024) (r : Fin 256) (l : Fin 1024) :
    k0_pay17 (F := Ideal) v a b w (ix2 r l) = v (ix2 r l)
      + ∑ k : Fin 1024, a (ix2 r k) * Ideal.logistic (a (ix2 r k)) * b (ix2 r k) * w (ix2 k l) := by
  pointwise [k0_pay17, half_tanh]

theorem p14 (v : V32 S256x1024) (g : V32 S1x1024) (w : V16 S1024x1024) (r : Fin 256) (l : Fin 1024) :
    k0_pay14 (F := Ideal) v g w (ix2 r l) = ∑ k : Fin 1024, k0_pay13 (F := Ideal) v g (ix2 r k) * w (ix2 k l) := by
  pointwise [k0_pay14]

theorem p15 (v : V32 S256x1024) (g : V32 S1x1024) (w : V16 S1024x1024) (r : Fin 256) (l : Fin 1024) :
    k0_pay15 (F := Ideal) v g w (ix2 r l) = ∑ k : Fin 1024, k0_pay13 (F := Ideal) v g (ix2 r k) * w (ix2 k l) := by
  pointwise [k0_pay15]

theorem p18 (v : V32 S256x1024) (h : V16 S256x1024) (wa wb w : V16 S1024x1024) (r : Fin 256) (l : Fin 1024) :
    k0_pay18 (F := Ideal) v h wa wb w (ix2 r l) = v (ix2 r l)
      + ∑ k : Fin 1024, (∑ i : Fin 1024, h (ix2 r i) * wa (ix2 i k)) * Ideal.logistic (∑ i : Fin 1024, h (ix2 r i) * wa (ix2 i k))
        * (∑ i : Fin 1024, h (ix2 r i) * wb (ix2 i k)) * w (ix2 k l) := by
  pointwise [k0_pay18, half_tanh]

theorem p20 (h : V16 S256x1024) (v a : V32 S256x1024) (wb w : V16 S1024x1024) (r : Fin 256) (l : Fin 1024) :
    k0_pay20 (F := Ideal) h v a wb w (ix2 r l) = v (ix2 r l)
      + ∑ k : Fin 1024, a (ix2 r k) * Ideal.logistic (a (ix2 r k))
        * (∑ i : Fin 1024, h (ix2 r i) * wb (ix2 i k)) * w (ix2 k l) := by
  pointwise [k0_pay20, half_tanh]

theorem p19 (h : V16 S256x1024) (w : V16 S1024x1024) (r : Fin 256) (l : Fin 1024) :
    k0_pay19 (F := Ideal) h w (ix2 r l) = ∑ i : Fin 1024, h (ix2 r i) * w (ix2 i l) := by
  pointwise [k0_pay19]

theorem p21 (h : V16 S256x1024) (v : V32 S256x1024) (wa wb w : V16 S1024x1024) (r : Fin 256) (l : Fin 1024) :
    k0_pay21 (F := Ideal) h v wa wb w (ix2 r l) = v (ix2 r l)
      + ∑ k : Fin 1024, (∑ i : Fin 1024, h (ix2 r i) * wa (ix2 i k)) * Ideal.logistic (∑ i : Fin 1024, h (ix2 r i) * wa (ix2 i k))
        * (∑ i : Fin 1024, h (ix2 r i) * wb (ix2 i k)) * w (ix2 k l) := by
  pointwise [k0_pay21, half_tanh]

theorem p23 (h : V16 S256x1024) (v : V32 S256x1024) (wa wb : V16 S1024x768) (w : V16 S768x1024) (r : Fin 256) (l : Fin 1024) :
    k0_pay23 (F := Ideal) h v (k0_pay22 (F := Ideal) wa) (constant S256x768 .f32 0x00000000#32) wb w (ix2 r l) = v (ix2 r l)
      + ∑ k : Fin 768, (∑ i : Fin 1024, h (ix2 r i) * wa (ix2 i k)) * Ideal.logistic (∑ i : Fin 1024, h (ix2 r i) * wa (ix2 i k))
        * (∑ i : Fin 1024, h (ix2 r i) * wb (ix2 i k)) * w (ix2 k l) := by
  pointwise [k0_pay23, k0_pay22, half_tanh]

theorem p24 (h : V16 S256x1024) (v : V32 S256x1024) (wa wb : V16 S1024x768) (w : V16 S768x1024) (r : Fin 256) (l : Fin 1024) :
    k0_pay24 (F := Ideal) h v wa wb w (ix2 r l) = v (ix2 r l)
      + ∑ k : Fin 768, (∑ i : Fin 1024, h (ix2 r i) * wa (ix2 i k)) * Ideal.logistic (∑ i : Fin 1024, h (ix2 r i) * wa (ix2 i k))
        * (∑ i : Fin 1024, h (ix2 r i) * wb (ix2 i k)) * w (ix2 k l) := by
  pointwise [k0_pay24, half_tanh]

/-- The row after the feed-forward part, of row `i` of the block. -/
def ffnRow (i : Fin 512) : Fin 1024 → EReal :=
  ffn (midRow x0 x1 x2 x3 x4 x5 x6 i) (fun k => x7 (ix2 0 k)) (fun k l => x8 (ix2 k l)) (fun k l => x9 (ix2 k l))

theorem ffn_lo (r : Fin 256) (l : Fin 1024) :
    k0_pay23 (F := Ideal) (k0_pay28 x0 x1 x2 x3 x4 x5 x6 x7 x8 x9 x10) (k0_pay20 (k0_pay28 x0 x1 x2 x3 x4 x5 x6 x7 x8 x9 x10) (k0_pay17 (k0_pay25 x0 x1 x2 x3 x4 x5 x6 x7 x8 x9 x10) (k0_pay14 (k0_pay25 x0 x1 x2 x3 x4 x5 x6 x7 x8 x9 x10) (View.ld x7 r0_10) (View.ld x8 r0_11)) (k0_pay15 (k0_pay25 x0 x1 x2 x3 x4 x5 x6 x7 x8 x9 x10) (View.ld x7 r0_10) (View.ld x8 r0_12)) (View.ld x9 r0_13)) (k0_pay19 (k0_pay28 x0 x1 x2 x3 x4 x5 x6 x7 x8 x9 x10) (View.ld x8 r0_14)) (View.ld x8 r0_15) (View.ld x9 r0_16)) (k0_pay22 (View.ld x8 r0_17)) (constant S256x768 .f32 0x00000000#32) (View.ld x8 r0_18) (View.ld x9 r0_19)
      (ix2 r l) = ffnRow x0 x1 x2 x3 x4 x5 x6 x7 x8 x9 (lo r) l := by
  rw [p23, p20, p17]
  simp only [p14, p15, p19, h_lo, h_lo', mid_lo]
  unfold ffnRow ffn
  unfold dot
  rw [← sum_chunks]
  pointwise [glu, dot]
  simp only [← Nat.add_assoc, Nat.reduceAdd]

theorem ffn_hi (r : Fin 256) (l : Fin 1024) :
    k0_pay24 (F := Ideal) (k0_pay29 x0 x1 x2 x3 x4 x5 x6 x7 x8 x9 x10) (k0_pay21 (k0_pay29 x0 x1 x2 x3 x4 x5 x6 x7 x8 x9 x10) (k0_pay18 (k0_pay12 (k0_pay26 x0 x1 x2 x3 x4 x5 x6 x7 x8 x9 x10) (k0_pay27 x0 x1 x2 x3 x4 x5 x6 x7 x8 x9 x10) (View.ld x6 r0_6)) (k0_pay29 x0 x1 x2 x3 x4 x5 x6 x7 x8 x9 x10) (View.ld x8 r0_11) (View.ld x8 r0_12) (View.ld x9 r0_13)) (View.ld x8 r0_14) (View.ld x8 r0_15) (View.ld x9 r0_16)) (View.ld x8 r0_17) (View.ld x8 r0_18) (View.ld x9 r0_19)
      (ix2 r l) = ffnRow x0 x1 x2 x3 x4 x5 x6 x7 x8 x9 (hi r) l := by
  rw [p24, p21, p18]
  simp only [h_hi, mid_hi]
  unfold ffnRow ffn
  unfold dot
  rw [← sum_chunks]
  pointwise [glu, dot]
  simp only [← Nat.add_assoc, Nat.reduceAdd]

/-- The whole row, of row `i` of the block. -/
def outRow (i : Fin 512) : Fin 1024 → EReal :=
  rms (ffnRow x0 x1 x2 x3 x4 x5 x6 x7 x8 x9 i) (fun k => x10 (ix2 0 k))

/-- WHAT A GRID POINT LEAVES: row `i` of its block is the row of the mathematics. -/
theorem out_apply (i : Fin 512) (l : Fin 1024) :
    out0_11 (F := Ideal) x0 x1 x2 x3 x4 x5 x6 x7 x8 x9 x10 (ix2 i l) = outRow x0 x1 x2 x3 x4 x5 x6 x7 x8 x9 x10 i l := by
  unfold out0_11
  by_cases h : i.val < 256
  · rw [View.canon_cons_of_not_mem]
    · have e : (ix2 i l : S512x1024.Idx) = r0_5.emb (ix2 (⟨i, h⟩ : Fin 256) l) :=
        Shape.idx_ext₂ (by show i.val = 0 + 1 * i.val; omega) (by show l.val = 0 + 1 * l.val; omega)
      rw [e, View.canon_cons_emb, p1]
      simp only [ffn_lo]
      pointwise [outRow, rms]
    · rw [Rect.mem_set_unit]
      intro hh
      have := (hh 0).1
      have h' : 256 ≤ i.val := this
      omega
  · have e : (ix2 i l : S512x1024.Idx) = r0_9.emb (ix2 (⟨i - 256, by omega⟩ : Fin 256) l) :=
      Shape.idx_ext₂ (by show i.val = 256 + 1 * (i.val - 256); omega) (by show l.val = 0 + 1 * l.val; omega)
    rw [e, View.canon_cons_emb, p2]
    simp only [ffn_hi]
    have hi' : hi ⟨i - 256, by omega⟩ = i := Fin.ext (by show 256 + (i.val - 256) = i.val; omega)
    rw [hi']
    pointwise [outRow, rms]

end Cert.Hand.Post

end
-- ==== Proof.PostRef.lean ====
/- What the plain program computes, row by row: the row of the mathematics (`Spec.post`). -/
module

public import proofs.«01_k».proof.Proof.Gen.ReferenceIdeal.Run
public import proofs.«01_k».proof.Proof.Spec

@[expose] public section

noncomputable section

namespace Cert.Hand.PostRef

open Cert.ReferenceIdeal Cert.ReferenceIdeal.Gen Cert.ReferenceIdeal.Value Idealize.ShloMosaic Idealize.ShloMosaic.TcCoe Cert.Hand

/-- The logistic function as the plain program spells it. -/
theorem sig_eq (x : EReal) : Ideal.div 1 (1 + Ideal.exp (-x)) = Ideal.logistic x := rfl

abbrev A32 (s : Shape) := FVec Ideal s .f32
abbrev A16 (s : Shape) := FVec Ideal s .bf16

/-! ## The plain program's stages -/

/-- The token rows after the mixers. -/
def refMid (X0 : A32 S32768x1024) (X1 X2 : A32 S32768x512) (X3 : A16 S32768x2048) (X4 X5 : A32 S512x1024) (X6 : A32 S1024x1024) : A32 S32768x1024 :=
  (addf X0 (Host.dotGeneral dot_S32768x1024_S1024x1024_S32768x1024_1_0_0_1_n_n none (addf (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extractStridedSlice S32768x1024 ![0, 0] (extf .f32 X3 bitsLt_bf16_f32) slices_S32768x2048_S32768x1024_0_0))))) (Host.dotGeneral dot_S32768x512_S512x1024_S32768x1024_1_0_0_1_n_n none X1 X4)) (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extractStridedSlice S32768x1024 ![0, 1024] (extf .f32 X3 bitsLt_bf16_f32) slices_S32768x2048_S32768x1024_0_1024))))) (Host.dotGeneral dot_S32768x512_S512x1024_S32768x1024_1_0_0_1_n_n none X2 X5))) X6))

/-- The root mean square norm of every row. -/
def refRms (M : A32 S32768x1024) (g : A32 S1024) : A32 S32768x1024 :=
  (mulf (mulf M (broadcastInDim S32768x1024 ![0, 1] bcast_S32768x1_S32768x1024_0_1 (Host.rsqrt (addf (Host.divf (broadcastInDim S32768x1 ![0] bcast_S32768_S32768x1_0 (Host.reduceAdd (mulf M M) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g)))

/-- The normalised rows projected to twice the feed-forward width. -/
def refProj (H : A32 S32768x1024) (X8 : A32 S1024x5632) : A32 S32768x5632 :=
  Host.dotGeneral dot_S32768x1024_S1024x5632_S32768x5632_1_0_0_1_n_n none H X8

/-- The token rows after the feed-forward part. -/
def refFfn (M : A32 S32768x1024) (P : A32 S32768x5632) (X9 : A32 S2816x1024) : A32 S32768x1024 :=
  (addf M (Host.dotGeneral dot_S32768x2816_S2816x1024_S32768x1024_1_0_0_1_n_n none (mulf (mulf (extractStridedSlice S32768x2816 ![0, 0] P slices_S32768x5632_S32768x2816_0_0) (Host.divf (broadcastInDim S32768x2816 ![] bcast_S_S32768x2816 (constant S_ .f32 0x3F800000#32)) (addf (broadcastInDim S32768x2816 ![] bcast_S_S32768x2816 (constant S_ .f32 0x3F800000#32)) (Host.exp (Host.negf (extractStridedSlice S32768x2816 ![0, 0] P slices_S32768x5632_S32768x2816_0_0)))))) (extractStridedSlice S32768x2816 ![0, 2816] P slices_S32768x5632_S32768x2816_0_2816)) X9))

theorem refMid_apply (X0 : A32 S32768x1024) (X1 X2 : A32 S32768x512) (X3 : A16 S32768x2048) (X4 X5 : A32 S512x1024) (X6 : A32 S1024x1024)
    (i : Fin 32768) (l : Fin 1024) : refMid X0 X1 X2 X3 X4 X5 X6 (ix2 i l)
      = mid (fun k => X0 (ix2 i k)) (fun k => X1 (ix2 i k)) (fun k => X2 (ix2 i k)) (fun k => X3 (ix2 i k))
          (fun k l => X4 (ix2 k l)) (fun k l => X5 (ix2 k l)) (fun k l => X6 (ix2 k l)) l := by
  pointwise [refMid, sig_eq, mid, mixed, dot]

theorem refRms_apply (M : A32 S32768x1024) (g : A32 S1024) (i : Fin 32768) (l : Fin 1024) :
    refRms M g (ix2 i l) = rms (fun k => M (ix2 i k)) (fun k => g (ix1 k)) l := by
  pointwise [refRms, rms]

theorem refProj_apply (H : A32 S32768x1024) (X8 : A32 S1024x5632) (i : Fin 32768) (l : Fin 5632) :
    refProj H X8 (ix2 i l) = dot (fun k => H (ix2 i k)) (fun k l => X8 (ix2 k l)) l := by
  pointwise [refProj, dot]

theorem refFfn_apply (M : A32 S32768x1024) (P : A32 S32768x5632) (X9 : A32 S2816x1024) (i : Fin 32768) (l : Fin 1024) :
    refFfn M P X9 (ix2 i l) = M (ix2 i l) + dot (glu (fun k => P (ix2 i k))) (fun k l => X9 (ix2 k l)) l := by
  pointwise [refFfn, sig_eq, glu, dot]

/-- The stages in order are the row of the mathematics. -/
theorem ref_stages (X0 : A32 S32768x1024) (X1 X2 : A32 S32768x512) (X3 : A16 S32768x2048) (X4 X5 : A32 S512x1024) (X6 : A32 S1024x1024)
    (X7 : A32 S1024) (X8 : A32 S1024x5632) (X9 : A32 S2816x1024) (X10 : A32 S1024) (i : Fin 32768) (l : Fin 1024) :
    refRms (refFfn (refMid X0 X1 X2 X3 X4 X5 X6) (refProj (refRms (refMid X0 X1 X2 X3 X4 X5 X6) X7) X8) X9) X10 (ix2 i l)
      = post (fun k => X0 (ix2 i k)) (fun k => X1 (ix2 i k)) (fun k => X2 (ix2 i k)) (fun k => X3 (ix2 i k))
          (fun k l => X4 (ix2 k l)) (fun k l => X5 (ix2 k l)) (fun k l => X6 (ix2 k l)) (fun k => X7 (ix1 k))
          (fun k l => X8 (ix2 k l)) (fun k l => X9 (ix2 k l)) (fun k => X10 (ix1 k)) l := by
  simp only [refRms_apply, refFfn_apply, refProj_apply, refMid_apply]
  rfl

variable (m : (ℓ : Loc nD τ sig) → Buf (Elt Ideal) ℓ) (c : Dev nD)

/-- The plain program's result is those stages of its arguments. -/
theorem res_eq :
    res_main_v65 (F := Ideal) m c
      = refRms (refFfn (refMid (shapeCast S32768x1024 (m ((c.tc : Thread nD τ).loc main_arg0)) shapeCasts_S8x4096x1024_S32768x1024)
          (shapeCast S32768x512 (extf (F := Ideal) .f32 (m ((c.tc : Thread nD τ).loc main_arg1)) bitsLt_bf16_f32) shapeCasts_S8x4096x512_S32768x512)
          (shapeCast S32768x512 (extf (F := Ideal) .f32 (m ((c.tc : Thread nD τ).loc main_arg2)) bitsLt_bf16_f32) shapeCasts_S8x4096x512_S32768x512)
          (m ((c.tc : Thread nD τ).loc main_arg3))
          (shapeCast S512x1024 (m ((c.tc : Thread nD τ).loc main_arg4)) shapeCasts_S1x512x1024_S512x1024)
          (shapeCast S512x1024 (m ((c.tc : Thread nD τ).loc main_arg5)) shapeCasts_S1x512x1024_S512x1024)
          (shapeCast S1024x1024 (m ((c.tc : Thread nD τ).loc main_arg6)) shapeCasts_S1x1024x1024_S1024x1024))
        (refProj (refRms (refMid (shapeCast S32768x1024 (m ((c.tc : Thread nD τ).loc main_arg0)) shapeCasts_S8x4096x1024_S32768x1024)
          (shapeCast S32768x512 (extf (F := Ideal) .f32 (m ((c.tc : Thread nD τ).loc main_arg1)) bitsLt_bf16_f32) shapeCasts_S8x4096x512_S32768x512)
          (shapeCast S32768x512 (extf (F := Ideal) .f32 (m ((c.tc : Thread nD τ).loc main_arg2)) bitsLt_bf16_f32) shapeCasts_S8x4096x512_S32768x512)
          (m ((c.tc : Thread nD τ).loc main_arg3))
          (shapeCast S512x1024 (m ((c.tc : Thread nD τ).loc main_arg4)) shapeCasts_S1x512x1024_S512x1024)
          (shapeCast S512x1024 (m ((c.tc : Thread nD τ).loc main_arg5)) shapeCasts_S1x512x1024_S512x1024)
          (shapeCast S1024x1024 (m ((c.tc : Thread nD τ).loc main_arg6)) shapeCasts_S1x1024x1024_S1024x1024))
          (shapeCast S1024 (m ((c.tc : Thread nD τ).loc main_arg7)) shapeCasts_S1x1024_S1024))
          (shapeCast S1024x5632 (m ((c.tc : Thread nD τ).loc main_arg8)) shapeCasts_S1x1024x5632_S1024x5632))
          (shapeCast S2816x1024 (m ((c.tc : Thread nD τ).loc main_arg9)) shapeCasts_S1x2816x1024_S2816x1024))
          (m ((c.tc : Thread nD τ).loc main_arg10)) := by
  unfold res_main_v65 refRms refFfn refProj refMid
  rfl

end Cert.Hand.PostRef

end
-- ==== Proof.PostValue.lean ====
/- The closing call's whole result, row by row: block `t` holds the rows 512 t to 512 t + 511, and each is the row of the
   mathematics of the arguments' rows; the plain program's result is the same. -/
module

public import proofs.«01_k».proof.Proof.PostBlock
public import proofs.«01_k».proof.Proof.PostRef

@[expose] public section

noncomputable section

namespace Cert.Hand.PostValue

open Cert.KernelIdeal Cert.KernelIdeal.Gen Cert.KernelIdeal.Value Idealize.ShloMosaic Idealize.ShloMosaic.TcCoe Idealize.SL.Sem Cert.Hand Cert.Hand.Post

variable (m : (ℓ : Loc nD τ sig) → Buf (Elt Ideal) ℓ) (c : Dev nD)

/-! ## The host's arrays as the region finds them -/

theorem V0 : (V m c main_v0 : V32 S32768x1024) = shapeCast S32768x1024 (m ((c : Thread nD τ).loc main_arg0)) shapeCasts_S8x4096x1024_S32768x1024 := by
  show StableHlo.after _ _ _ = _
  after_results_simp
  rfl
theorem V7 : (V m c main_v7 : V16 S32768x512) = shapeCast S32768x512 (m ((c : Thread nD τ).loc main_arg1)) shapeCasts_S8x4096x512_S32768x512 := by
  show StableHlo.after _ _ _ = _
  after_results_simp
  rfl
theorem V8 : (V m c main_v8 : V16 S32768x512) = shapeCast S32768x512 (m ((c : Thread nD τ).loc main_arg2)) shapeCasts_S8x4096x512_S32768x512 := by
  show StableHlo.after _ _ _ = _
  after_results_simp
  rfl
theorem V9 : (V m c main_v9 : V16 S512x1024) = shapeCast S512x1024 (m ((c : Thread nD τ).loc main_arg4)) shapeCasts_S1x512x1024_S512x1024 := by
  show StableHlo.after _ _ _ = _
  after_results_simp
  rfl
theorem V10 : (V m c main_v10 : V16 S512x1024) = shapeCast S512x1024 (m ((c : Thread nD τ).loc main_arg5)) shapeCasts_S1x512x1024_S512x1024 := by
  show StableHlo.after _ _ _ = _
  after_results_simp
  rfl
theorem V11 : (V m c main_v11 : V16 S1024x1024) = shapeCast S1024x1024 (m ((c : Thread nD τ).loc main_arg6)) shapeCasts_S1x1024x1024_S1024x1024 := by
  show StableHlo.after _ _ _ = _
  after_results_simp
  rfl
theorem V12 : (V m c main_v12 : V32 S1x1024) = shapeCast S1x1024 (shapeCast S1024 (m ((c : Thread nD τ).loc main_arg7)) shapeCasts_S1x1024_S1024) shapeCasts_S1024_S1x1024 := by
  show StableHlo.after _ _ _ = _
  after_results_simp
  rfl
theorem V13 : (V m c main_v13 : V16 S1024x5632) = shapeCast S1024x5632 (m ((c : Thread nD τ).loc main_arg8)) shapeCasts_S1x1024x5632_S1024x5632 := by
  show StableHlo.after _ _ _ = _
  after_results_simp
  rfl
theorem V14 : (V m c main_v14 : V16 S2816x1024) = shapeCast S2816x1024 (m ((c : Thread nD τ).loc main_arg9)) shapeCasts_S1x2816x1024_S2816x1024 := by
  show StableHlo.after _ _ _ = _
  after_results_simp
  rfl
theorem V15 : (V m c main_v15 : V32 S1x1024) = shapeCast S1x1024 (m ((c : Thread nD τ).loc main_arg10)) shapeCasts_S1024_S1x1024 := by
  show StableHlo.after _ _ _ = _
  after_results_simp
  rfl

/-! ## The windows' blocks -/

/-- Row `i` of block `t`, as a row of the array. -/
abbrev row (t : Fin cfg0.N) (i : Fin 512) : Fin 32768 := ⟨512 * t.val + i, by have := t.isLt; have h : cfg0.N = 64 := N_0; omega⟩

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx11 : ∀ t : Fin cfg0.N, win0_11.index t (0 : Fin 2) = t.val ∧ win0_11.index t (1 : Fin 2) = 0 := (by decide +kernel : ∀ t : Fin grid0.N, _)

theorem b0 (t : Fin cfg0.N) (i : Fin 512) (k : Fin 1024) : (iblk m c 0 t : V32 S512x1024) (ix2 i k) = V m c main_v0 (ix2 (row t i) k) := by
  obtain ⟨e0, e1⟩ := idx0 t
  show V m c main_v0 (((cfg0.win 0).blk t).view.emb (ix2 i k)) = _
  congr 1
  exact Shape.idx_ext₂ (by show win0_0.index t (0 : Fin 2) * 512 + 1 * i.val = 512 * t.val + i.val; omega)
    (by show win0_0.index t (1 : Fin 2) * 1024 + 1 * k.val = k.val; omega)
theorem b1 (t : Fin cfg0.N) (i : Fin 512) (k : Fin 512) : (iblk m c 1 t : V16 S512x512) (ix2 i k) = V m c main_v7 (ix2 (row t i) k) := by
  obtain ⟨e0, e1⟩ := idx1 t
  show V m c main_v7 (((cfg0.win 1).blk t).view.emb (ix2 i k)) = _
  congr 1
  exact Shape.idx_ext₂ (by show win0_1.index t (0 : Fin 2) * 512 + 1 * i.val = 512 * t.val + i.val; omega)
    (by show win0_1.index t (1 : Fin 2) * 512 + 1 * k.val = k.val; omega)
theorem b2 (t : Fin cfg0.N) (i : Fin 512) (k : Fin 512) : (iblk m c 2 t : V16 S512x512) (ix2 i k) = V m c main_v8 (ix2 (row t i) k) := by
  obtain ⟨e0, e1⟩ := idx2 t
  show V m c main_v8 (((cfg0.win 2).blk t).view.emb (ix2 i k)) = _
  congr 1
  exact Shape.idx_ext₂ (by show win0_2.index t (0 : Fin 2) * 512 + 1 * i.val = 512 * t.val + i.val; omega)
    (by show win0_2.index t (1 : Fin 2) * 512 + 1 * k.val = k.val; omega)
theorem b3 (t : Fin cfg0.N) (i : Fin 512) (k : Fin 2048) : (iblk m c 3 t : V16 S512x2048) (ix2 i k) = V m c main_arg3 (ix2 (row t i) k) := by
  obtain ⟨e0, e1⟩ := idx3 t
  show V m c main_arg3 (((cfg0.win 3).blk t).view.emb (ix2 i k)) = _
  congr 1
  exact Shape.idx_ext₂ (by show win0_3.index t (0 : Fin 2) * 512 + 1 * i.val = 512 * t.val + i.val; omega)
    (by show win0_3.index t (1 : Fin 2) * 2048 + 1 * k.val = k.val; omega)
theorem b4 (t : Fin cfg0.N) : (iblk m c 4 t : V16 S512x1024) = V m c main_v9 := by
  obtain ⟨e0, e1⟩ := idx4 t
  funext j
  show V m c main_v9 (((cfg0.win 4).blk t).view.emb j) = _
  congr 1
  exact Shape.idx_ext₂ (by show win0_4.index t (0 : Fin 2) * 512 + 1 * (j 0).val = (j 0).val; omega)
    (by show win0_4.index t (1 : Fin 2) * 1024 + 1 * (j 1).val = (j 1).val; omega)
theorem b5 (t : Fin cfg0.N) : (iblk m c 5 t : V16 S512x1024) = V m c main_v10 := by
  obtain ⟨e0, e1⟩ := idx5 t
  funext j
  show V m c main_v10 (((cfg0.win 5).blk t).view.emb j) = _
  congr 1
  exact Shape.idx_ext₂ (by show win0_5.index t (0 : Fin 2) * 512 + 1 * (j 0).val = (j 0).val; omega)
    (by show win0_5.index t (1 : Fin 2) * 1024 + 1 * (j 1).val = (j 1).val; omega)
theorem b6 (t : Fin cfg0.N) : (iblk m c 6 t : V16 S1024x1024) = V m c main_v11 := by
  obtain ⟨e0, e1⟩ := idx6 t
  funext j
  show V m c main_v11 (((cfg0.win 6).blk t).view.emb j) = _
  congr 1
  exact Shape.idx_ext₂ (by show win0_6.index t (0 : Fin 2) * 1024 + 1 * (j 0).val = (j 0).val; omega)
    (by show win0_6.index t (1 : Fin 2) * 1024 + 1 * (j 1).val = (j 1).val; omega)
theorem b7 (t : Fin cfg0.N) : (iblk m c 7 t : V32 S1x1024) = V m c main_v12 := by
  obtain ⟨e0, e1⟩ := idx7 t
  funext j
  show V m c main_v12 (((cfg0.win 7).blk t).view.emb j) = _
  congr 1
  exact Shape.idx_ext₂ (by show win0_7.index t (0 : Fin 2) * 1 + 1 * (j 0).val = (j 0).val; omega)
    (by show win0_7.index t (1 : Fin 2) * 1024 + 1 * (j 1).val = (j 1).val; omega)
theorem b8 (t : Fin cfg0.N) : (iblk m c 8 t : V16 S1024x5632) = V m c main_v13 := by
  obtain ⟨e0, e1⟩ := idx8 t
  funext j
  show V m c main_v13 (((cfg0.win 8).blk t).view.emb j) = _
  congr 1
  exact Shape.idx_ext₂ (by show win0_8.index t (0 : Fin 2) * 1024 + 1 * (j 0).val = (j 0).val; omega)
    (by show win0_8.index t (1 : Fin 2) * 5632 + 1 * (j 1).val = (j 1).val; omega)
theorem b9 (t : Fin cfg0.N) : (iblk m c 9 t : V16 S2816x1024) = V m c main_v14 := by
  obtain ⟨e0, e1⟩ := idx9 t
  funext j
  show V m c main_v14 (((cfg0.win 9).blk t).view.emb j) = _
  congr 1
  exact Shape.idx_ext₂ (by show win0_9.index t (0 : Fin 2) * 2816 + 1 * (j 0).val = (j 0).val; omega)
    (by show win0_9.index t (1 : Fin 2) * 1024 + 1 * (j 1).val = (j 1).val; omega)
theorem b10 (t : Fin cfg0.N) : (iblk m c 10 t : V32 S1x1024) = V m c main_v15 := by
  obtain ⟨e0, e1⟩ := idx10 t
  funext j
  show V m c main_v15 (((cfg0.win 10).blk t).view.emb j) = _
  congr 1
  exact Shape.idx_ext₂ (by show win0_10.index t (0 : Fin 2) * 1 + 1 * (j 0).val = (j 0).val; omega)
    (by show win0_10.index t (1 : Fin 2) * 1024 + 1 * (j 1).val = (j 1).val; omega)

/-! ## The whole result -/

/-- Row `i` of the result, from the arrays the region finds. -/
def Grow (i : Fin 32768) : Fin 1024 → EReal :=
  post (fun k => V m c main_v0 (ix2 i k)) (fun k => V m c main_v7 (ix2 i k)) (fun k => V m c main_v8 (ix2 i k))
    (fun k => V m c main_arg3 (ix2 i k)) (fun k l => V m c main_v9 (ix2 k l)) (fun k l => V m c main_v10 (ix2 k l))
    (fun k l => V m c main_v11 (ix2 k l)) (fun k => V m c main_v12 (ix2 0 k)) (fun k l => V m c main_v13 (ix2 k l))
    (fun k l => V m c main_v14 (ix2 k l)) (fun k => V m c main_v15 (ix2 0 k))

/-- The result as one function of the arrays the region finds. -/
def G : V32 S32768x1024 := fun j => Grow m c (j 0) (j 1)

/-- Row `i` of what point `t` computes is row `512 t + i` of that function. -/
theorem block_row (t : Fin cfg0.N) (i : Fin 512) (l : Fin 1024) :
    out0_11 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 i l) = G m c (ix2 (row t i) l) := by
  rw [b4, b5, b6, b7, b8, b9, b10]
  refine (out_apply _ _ _ _ _ _ _ _ _ _ _ i l).trans ?_
  unfold outRow ffnRow midRow
  simp only [b0, b1, b2, b3]
  rfl

/-- What point `t` writes back is block `t` of that function. -/
theorem flushed_eq (t : Fin cfg0.N) :
    (dats m 0 c).flushed 11 t = ((cfg0.win 11).blk t).view.read (Elt Ideal) (G m c) := by
  rw [flushed11]
  obtain ⟨e0, e1⟩ := idx11 t
  have ej : ∀ (i : Fin 512) (l : Fin 1024), ((cfg0.win 11).blk t).view.emb (ix2 i l : S512x1024.Idx) = (ix2 (row t i) l : S32768x1024.Idx) := fun i l =>
    Shape.idx_ext₂ (by show win0_11.index t (0 : Fin 2) * 512 + 1 * i.val = 512 * t.val + i.val; omega)
      (by show win0_11.index t (1 : Fin 2) * 1024 + 1 * l.val = l.val; omega)
  have key : ∀ j : S512x1024.Idx, out0_11 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) j = G m c (((cfg0.win 11).blk t).view.emb j) := by
    intro j
    obtain ⟨i, l, rfl⟩ : ∃ (i : Fin 512) (l : Fin 1024), j = ix2 i l := ⟨j 0, j 1, Shape.idx_ext₂ rfl rfl⟩
    rw [ej]
    exact block_row m c t i l
  exact funext key

/-- Every row is in the block of its 512. -/
theorem covered (i : S32768x1024.Idx) :
    ∃ t : Fin cfg0.N, (cfg0.win 11).flush t = true ∧ i ∈ ((cfg0.win 11).blk t).view.set := by
  have h0 : (i 0 : Nat) < 32768 := (i 0).isLt
  have hN : cfg0.N = 64 := N_0
  refine ⟨⟨(i 0 : Nat) / 512, by omega⟩, flush0_11 _, ?_⟩
  generalize ht : (⟨(i 0 : Nat) / 512, by omega⟩ : Fin cfg0.N) = t
  have hv : t.val = (i 0 : Nat) / 512 := by rw [← ht]
  obtain ⟨e0, e1⟩ := idx11 t
  have e : i = ((cfg0.win 11).blk t).view.emb (ix2 (⟨(i 0 : Nat) % 512, by omega⟩ : Fin 512) (i 1) : S512x1024.Idx) :=
    Shape.idx_ext₂ (by show (i 0 : Nat) = win0_11.index t (0 : Fin 2) * 512 + 1 * ((i 0 : Nat) % 512); omega)
      (by show (i 1 : Nat) = win0_11.index t (1 : Fin 2) * 1024 + 1 * (i 1 : Nat); omega)
  rw [e]
  exact ((cfg0.win 11).blk t).view.emb_mem_set _

/-- So the result array after the run is that function. -/
theorem final : (dats m 0 c).arrAt 11 cfg0.N = G m c :=
  (dats m 0 c).arrAt_eq_of_cover 11 (G m c) (fun t _ => flushed_eq m c t) covered

/-- A vector relaid as one row, at an index. -/
theorem cast_row (v : V32 S1024) (k : Fin 1024) : shapeCast S1x1024 v shapeCasts_S1024_S1x1024 (ix2 0 k) = v (ix1 k) := by
  pointwise

/-- THE TWO PROGRAMS AGREE: on equal arguments the kernel's result is the plain program's. -/
theorem agree (m' : (ℓ : Loc Cert.ReferenceIdeal.nD Cert.ReferenceIdeal.τ Cert.ReferenceIdeal.sig) → Buf (Elt Ideal) ℓ)
    (h0 : (m' ((c.tc : Thread nD τ).loc Cert.ReferenceIdeal.main_arg0) : V32 S8x4096x1024) = m ((c : Thread nD τ).loc main_arg0))
    (h1 : (m' ((c.tc : Thread nD τ).loc Cert.ReferenceIdeal.main_arg1) : V16 S8x4096x512) = m ((c : Thread nD τ).loc main_arg1))
    (h2 : (m' ((c.tc : Thread nD τ).loc Cert.ReferenceIdeal.main_arg2) : V16 S8x4096x512) = m ((c : Thread nD τ).loc main_arg2))
    (h3 : (m' ((c.tc : Thread nD τ).loc Cert.ReferenceIdeal.main_arg3) : V16 S32768x2048) = m ((c : Thread nD τ).loc main_arg3))
    (h4 : (m' ((c.tc : Thread nD τ).loc Cert.ReferenceIdeal.main_arg4) : V32 S1x512x1024) = m ((c : Thread nD τ).loc main_arg4))
    (h5 : (m' ((c.tc : Thread nD τ).loc Cert.ReferenceIdeal.main_arg5) : V32 S1x512x1024) = m ((c : Thread nD τ).loc main_arg5))
    (h6 : (m' ((c.tc : Thread nD τ).loc Cert.ReferenceIdeal.main_arg6) : V32 S1x1024x1024) = m ((c : Thread nD τ).loc main_arg6))
    (h7 : (m' ((c.tc : Thread nD τ).loc Cert.ReferenceIdeal.main_arg7) : V32 S1x1024) = m ((c : Thread nD τ).loc main_arg7))
    (h8 : (m' ((c.tc : Thread nD τ).loc Cert.ReferenceIdeal.main_arg8) : V32 S1x1024x5632) = m ((c : Thread nD τ).loc main_arg8))
    (h9 : (m' ((c.tc : Thread nD τ).loc Cert.ReferenceIdeal.main_arg9) : V32 S1x2816x1024) = m ((c : Thread nD τ).loc main_arg9))
    (h10 : (m' ((c.tc : Thread nD τ).loc Cert.ReferenceIdeal.main_arg10) : V32 S1024) = m ((c : Thread nD τ).loc main_arg10)) :
    Cert.ReferenceIdeal.Value.res_main_v65 (F := Ideal) m' c = G m c := by
  rw [PostRef.res_eq]
  funext j
  obtain ⟨i, l, rfl⟩ : ∃ (i : Fin 32768) (l : Fin 1024), j = ix2 i l := ⟨j 0, j 1, Shape.idx_ext₂ rfl rfl⟩
  rw [PostRef.ref_stages]
  show _ = Grow m c i l
  unfold Grow
  have e12 : (fun k : Fin 1024 => (V m c main_v12 : V32 S1x1024) (ix2 0 k))
      = fun k => shapeCast S1024 (m ((c : Thread nD τ).loc main_arg7)) shapeCasts_S1x1024_S1024 (ix1 k) :=
    funext fun k => by rw [V12]; exact cast_row _ k
  have e15 : (fun k : Fin 1024 => (V m c main_v15 : V32 S1x1024) (ix2 0 k)) = fun k => m ((c : Thread nD τ).loc main_arg10) (ix1 k) :=
    funext fun k => by rw [V15]; exact cast_row _ k
  rw [e12, e15, V0, V7, V8, V9, V10, V11, V13, V14, V_main_arg3]
  rw [← h0, ← h1, ← h2, ← h3, ← h4, ← h5, ← h6, ← h7, ← h8, ← h9, ← h10]
  rfl

end Cert.Hand.PostValue

end
-- ==== Proof.ProjBlock.lean ====
/- What one grid point of the opening call computes: each row of its blocks from the rows it is given and the row carried
   over from the point before. -/
module

public import proofs.«01_k».proof.Proof.Gen.Kernel2Ideal.Value
public import proofs.«01_k».proof.Proof.Spec

@[expose] public section

noncomputable section

namespace Cert.Hand.Proj

open Cert.Kernel2Ideal Cert.Kernel2Ideal.Gen Idealize.ShloMosaic Idealize.ShloMosaic.TcCoe Cert.Hand

abbrev V32 (s : Shape) := FVec Ideal s .f32
abbrev V16 (s : Shape) := FVec Ideal s .bf16

theorem hz : (![0, 0] : Fin 2 → Nat) = fun _ => 0 := funext fun a => by fin_cases a <;> rfl

section Cases

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1920 .bf16) (harg3 : arg3.IsWhole) (arg4 : Memref sig .tc .vmem S1024x1536 .bf16) (harg4 : arg4.IsWhole) (arg5 : Memref sig .tc .vmem S1024x2048 .bf16) (harg5 : arg5.IsWhole) (arg6 : Memref sig .tc .vmem S1x1920 .f32) (harg6 : arg6.IsWhole) (arg7 : Memref sig .tc .vmem S1024x1920 .f32) (harg7 : arg7.IsWhole) (arg8 : Memref sig .tc .vmem S1024x1536 .bf16) (harg8 : arg8.IsWhole) (arg9 : Memref sig .tc .vmem S1024x2048 .bf16) (harg9 : arg9.IsWhole) (arg10 : Memref sig .tc .vmem S8x1920 .f32) (harg10 : arg10.IsWhole)
  (x0 : V32 S1024x1024) (x1 : V32 S1x1024) (x2 : V16 S1024x1920) (x3 : V16 S1024x1536) (x4 : V16 S1024x2048) (x5 : V32 S1x1920) (xs : V32 S8x1920)

theorem outA7 (hc : cond0_0 i) :
    out0_A_7 (F := Ideal) c i arg1 harg1 arg2 harg2 arg3 harg3 arg4 harg4 arg5 harg5 arg6 harg6 arg7 harg7 arg8 harg8 arg9 harg9 arg10 harg10 hc x0 x1 x2 x3 x4 x5
      = k0_pay5 (F := Ideal) x0 x1 x3 := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 arg10 harg10 hc x0 x1 x2 x3 x4 x5)]
  unfold kernelRun0_A
  dsimp only
  sl_unfold_words
  rw [View.canon_unit_zero hz]
  simp only [View.readAt_eq_ld, harg1.read_unread, harg2.read_unread, harg3.read_unread, harg4.read_unread, View.ld_unit_zero (S := S1024x1024) hz, View.ld_unit_zero (S := S1x1024) hz, View.ld_unit_zero (S := S1024x1920) hz, View.ld_unit_zero (S := S1024x1536) hz, View.ld_unit_zero (S := S1024x2048) hz, View.ld_unit_zero (S := S1x1920) hz]

theorem outA8 (hc : cond0_0 i) :
    out0_A_8 (F := Ideal) c i arg1 harg1 arg2 harg2 arg3 harg3 arg4 harg4 arg5 harg5 arg6 harg6 arg7 harg7 arg8 harg8 arg9 harg9 arg10 harg10 hc x0 x1 x2 x3 x4 x5
      = k0_pay6 (F := Ideal) x0 x1 x4 := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 hc x0 x1 x2 x3 x4 x5)]
  unfold kernelRun0_A
  dsimp only
  sl_unfold_words
  rw [View.canon_unit_zero hz]
  simp only [View.readAt_eq_ld, harg1.read_unread, harg2.read_unread, harg3.read_unread, harg5.read_unread, View.ld_unit_zero (S := S1024x1024) hz, View.ld_unit_zero (S := S1x1024) hz, View.ld_unit_zero (S := S1024x1920) hz, View.ld_unit_zero (S := S1024x1536) hz, View.ld_unit_zero (S := S1024x2048) hz, View.ld_unit_zero (S := S1x1920) hz]

theorem outA6 (hc : cond0_0 i) :
    ∃ v : V32 S1x1920, out0_A_6 (F := Ideal) c i arg1 harg1 arg2 harg2 arg3 harg3 arg4 harg4 arg5 harg5 arg6 harg6 arg7 harg7 arg8 harg8 arg9 harg9 arg10 harg10 hc x0 x1 x2 x3 x4 x5
      = k0_pay2 (F := Ideal) (BitVec.ofNat 32 (i 0).val) (k0_pay7 (F := Ideal) x0 x1 x2) 4#32 v x5 := by
  unfold out0_A_6
  rw [View.read_writes_eq_canon _ _ _ (cover0_A_6 (F := Ideal) c i arg1 harg1 arg2 harg2 arg3 harg3 arg4 harg4 arg5 harg5 arg6 harg6 arg7 harg7 arg8 harg8 arg9 harg9 arg10 harg10 hc x0 x1 x2 x3 x4 x5)]
  unfold kernelRun0_A
  dsimp only
  sl_unfold_words
  rw [View.canon_unit_zero hz]
  simp only [View.readAt_eq_ld, harg1.read_unread, harg2.read_unread, harg3.read_unread, harg6.read_unread, View.ld_unit_zero (S := S1024x1024) hz, View.ld_unit_zero (S := S1x1024) hz, View.ld_unit_zero (S := S1024x1920) hz, View.ld_unit_zero (S := S1024x1536) hz, View.ld_unit_zero (S := S1024x2048) hz, View.ld_unit_zero (S := S1x1920) hz]
  exact ⟨_, rfl⟩

theorem soutA (hc : cond0_0 i) (l : Fin 1920) :
    sout0_A_0 (F := Ideal) c i arg1 harg1 arg2 harg2 arg3 harg3 arg4 harg4 arg5 harg5 arg6 harg6 arg7 harg7 arg8 harg8 arg9 harg9 arg10 harg10 hc x0 x1 x2 x3 x4 x5 (ix2 0 l)
      = k0_pay1 (F := Ideal) (k0_pay7 (F := Ideal) x0 x1 x2) (ix2 0 l) := by
  unfold sout0_A_0
  rw [View.read_writes_eq_canon _ _ _ (scover0_A_0 (F := Ideal) c i arg1 harg1 arg2 harg2 arg3 harg3 arg4 harg4 arg5 harg5 arg6 harg6 arg7 harg7 arg8 harg8 arg9 harg9 arg10 harg10 hc x0 x1 x2 x3 x4 x5)]
  unfold kernelRun0_A
  dsimp only
  sl_unfold_words
  simp only [View.readAt_eq_ld, harg1.read_unread, harg2.read_unread, harg3.read_unread, harg6.read_unread, View.ld_unit_zero (S := S1024x1024) hz, View.ld_unit_zero (S := S1x1024) hz, View.ld_unit_zero (S := S1024x1920) hz, View.ld_unit_zero (S := S1024x1536) hz, View.ld_unit_zero (S := S1024x2048) hz, View.ld_unit_zero (S := S1x1920) hz]
  rw [show (ix2 0 l : S8x1920.Idx) = (Rect.unit (s := S8x1920) ![0, 0] ![1, 1920] inb_S8x1920_S1x1920_0_0).emb (ix2 0 l) from
    Shape.idx_ext₂ rfl (by show l.val = 0 + 1 * l.val; omega)]
  exact View.canon_cons_emb _ _ _ _

theorem outB7 (hc : ¬cond0_0 i) :
    out0_B_7 (F := Ideal) c i arg1 harg1 arg2 harg2 arg3 harg3 arg4 harg4 arg5 harg5 arg6 harg6 arg7 harg7 arg8 harg8 arg9 harg9 arg10 harg10 hc x0 x1 x2 x3 x4 x5 xs
      = k0_pay5 (F := Ideal) x0 x1 x3 := by
  unfold out0_B_7
  rw [View.read_writes_eq_canon _ _ _ (cover0_B_7 (F := Ideal) c i arg1 harg1 arg2 harg2 arg3 harg3 arg4 harg4 arg5 harg5 arg6 harg6 arg7 harg7 arg8 harg8 arg9 harg9 arg10 harg10 hc x0 x1 x2 x3 x4 x5 xs)]
  unfold kernelRun0_B
  dsimp only
  sl_unfold_words
  rw [View.canon_unit_zero hz]
  simp only [View.readAt_eq_ld, harg1.read_unread, harg2.read_unread, harg3.read_unread, harg4.read_unread, View.ld_unit_zero (S := S1024x1024) hz, View.ld_unit_zero (S := S1x1024) hz, View.ld_unit_zero (S := S1024x1920) hz, View.ld_unit_zero (S := S1024x1536) hz, View.ld_unit_zero (S := S1024x2048) hz, View.ld_unit_zero (S := S1x1920) hz]

theorem outB8 (hc : ¬cond0_0 i) :
    out0_B_8 (F := Ideal) c i arg1 harg1 arg2 harg2 arg3 harg3 arg4 harg4 arg5 harg5 arg6 harg6 arg7 harg7 arg8 harg8 arg9 harg9 arg10 harg10 hc x0 x1 x2 x3 x4 x5 xs
      = k0_pay6 (F := Ideal) x0 x1 x4 := by
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 arg10 harg10 hc x0 x1 x2 x3 x4 x5 xs)]
  unfold kernelRun0_B
  dsimp only
  sl_unfold_words
  rw [View.canon_unit_zero hz]
  simp only [View.readAt_eq_ld, harg1.read_unread, harg2.read_unread, harg3.read_unread, harg5.read_unread, View.ld_unit_zero (S := S1024x1024) hz, View.ld_unit_zero (S := S1x1024) hz, View.ld_unit_zero (S := S1024x1920) hz, View.ld_unit_zero (S := S1024x1536) hz, View.ld_unit_zero (S := S1024x2048) hz, View.ld_unit_zero (S := S1x1920) hz]

theorem outB6 (hc : ¬cond0_0 i) :
    out0_B_6 (F := Ideal) c i arg1 harg1 arg2 harg2 arg3 harg3 arg4 harg4 arg5 harg5 arg6 harg6 arg7 harg7 arg8 harg8 arg9 harg9 arg10 harg10 hc x0 x1 x2 x3 x4 x5 xs
      = k0_pay2 (F := Ideal) (BitVec.ofNat 32 (i 0).val) (k0_pay7 (F := Ideal) x0 x1 x2) 4#32
          (View.ld xs (Rect.unit (s := S8x1920) ![0, 0] S1x1920.size inb_S8x1920_S1x1920_0_0)) x5 := by
  unfold out0_B_6
  rw [View.read_writes_eq_canon _ _ _ (cover0_B_6 (F := Ideal) c i arg1 harg1 arg2 harg2 arg3 harg3 arg4 harg4 arg5 harg5 arg6 harg6 arg7 harg7 arg8 harg8 arg9 harg9 arg10 harg10 hc x0 x1 x2 x3 x4 x5 xs)]
  unfold kernelRun0_B
  dsimp only
  sl_unfold_words
  rw [View.canon_unit_zero hz]
  simp only [View.readAt_eq_ld, harg1.read_unread, harg2.read_unread, harg3.read_unread, harg6.read_unread, harg10.read_unread, View.ld_unit_zero (S := S1024x1024) hz, View.ld_unit_zero (S := S1x1024) hz, View.ld_unit_zero (S := S1024x1920) hz, View.ld_unit_zero (S := S1024x1536) hz, View.ld_unit_zero (S := S1024x2048) hz, View.ld_unit_zero (S := S1x1920) hz]

theorem soutB (hc : ¬cond0_0 i) (l : Fin 1920) :
    sout0_B_0 (F := Ideal) c i arg1 harg1 arg2 harg2 arg3 harg3 arg4 harg4 arg5 harg5 arg6 harg6 arg7 harg7 arg8 harg8 arg9 harg9 arg10 harg10 hc x0 x1 x2 x3 x4 x5 xs (ix2 0 l)
      = k0_pay1 (F := Ideal) (k0_pay7 (F := Ideal) x0 x1 x2) (ix2 0 l) := by
  unfold sout0_B_0
  unfold kernelRun0_B
  dsimp only
  sl_unfold_words
  simp only [View.readAt_eq_ld, harg1.read_unread, harg2.read_unread, harg3.read_unread, harg6.read_unread, View.ld_unit_zero (S := S1024x1024) hz, View.ld_unit_zero (S := S1x1024) hz, View.ld_unit_zero (S := S1024x1920) hz, View.ld_unit_zero (S := S1024x1536) hz, View.ld_unit_zero (S := S1024x2048) hz, View.ld_unit_zero (S := S1x1920) hz]
  have e : (ix2 0 l : S8x1920.Idx) = (Rect.unit (s := S8x1920) ![0, 0] ![1, 1920] inb_S8x1920_S1x1920_0_0).emb (ix2 0 l) :=
    Shape.idx_ext₂ rfl (by show l.val = 0 + 1 * l.val; omega)
  rw [e]
  exact View.read_writes_cons_emb _ _ _ _ _ _

end Cases

/-! ## The payloads at an index -/

/-- The projected row `i` of the block. -/
def projRow {n : ℕ} (x0 : V32 S1024x1024) (x1 : V32 S1x1024) (w : Fin 1024 → Fin n → EReal) (i : Fin 1024) : Fin n → EReal :=
  dot (rms (fun k => x0 (ix2 i k)) (fun k => x1 (ix2 0 k))) w

variable (x0 : V32 S1024x1024) (x1 : V32 S1x1024) (x2 : V16 S1024x1920) (x3 : V16 S1024x1536) (x4 : V16 S1024x2048) (x5 : V32 S1x1920) (xs : V32 S8x1920)

theorem p5 (i : Fin 1024) (l : Fin 1536) : k0_pay5 (F := Ideal) x0 x1 x3 (ix2 i l) = projRow x0 x1 (fun k l => x3 (ix2 k l)) i l := by
  pointwise [k0_pay5, k0_pay4, projRow, dot, rms]

theorem p6 (i : Fin 1024) (l : Fin 2048) : k0_pay6 (F := Ideal) x0 x1 x4 (ix2 i l) = projRow x0 x1 (fun k l => x4 (ix2 k l)) i l := by
  pointwise [k0_pay6, k0_pay4, projRow, dot, rms]

theorem p7 (i : Fin 1024) (l : Fin 1920) : k0_pay7 (F := Ideal) x0 x1 x2 (ix2 i l) = projRow x0 x1 (fun k l => x2 (ix2 k l)) i l := by
  pointwise [k0_pay7, k0_pay4, projRow, dot, rms]

theorem p1 (p : V32 S1024x1920) (l : Fin 1920) : k0_pay1 (F := Ideal) p (ix2 0 l) = p (ix2 1023 l) := by
  pointwise [k0_pay1]

/-- A word below `2 ^ 32` compared with zero. -/
theorem cmp_zero (n : ℕ) (h : n < 1024) : IntOp.cmpi CmpIPredicate.eq (BitVec.ofNat 32 n) 0#32 = if n = 0 then 1#1 else 0#1 := by
  by_cases hn : n = 0
  · subst hn; rfl
  · rw [if_neg hn]
    have : ¬ BitVec.ofNat 32 n = 0#32 := fun e => hn (by
      have := congrArg BitVec.toNat e
      simpa [Nat.mod_eq_of_lt (show n < 4294967296 by omega)] using this)
    show BitVec.ofBool (BitVec.ofNat 32 n == 0#32) = 0#1
    rw [beq_eq_false_iff_ne.mpr this]
    rfl

/-- The tile number starts a sequence when four divides it. -/
theorem rem_zero : ∀ t : Fin 32, Scalar.cmpi CmpIPredicate.eq (Scalar.remsi (BitVec.ofNat 32 t.val) 4#32) 0#32 = if t.val % 4 = 0 then 1#1 else 0#1 := by
  decide +kernel

/-- The row before row `i` of tile `t`, the row before the tile's first being `v`, or zeros where a sequence starts. -/
def prevRow (t : ℕ) (p : Fin 1024 → Fin 1920 → EReal) (v : Fin 1920 → EReal) (i : Fin 1024) : Fin 1920 → EReal :=
  if i.val = 0 then (if t % 4 = 0 then fun _ => 0 else v) else p ⟨i.val - 1, by omega⟩

theorem p2 (t : Fin 32) (p : V32 S1024x1920) (v : V32 S1x1920) (i : Fin 1024) (l : Fin 1920) :
    k0_pay2 (F := Ideal) (BitVec.ofNat 32 t.val) p 4#32 v x5 (ix2 i l)
      = p (ix2 i l) + x5 (ix2 0 l) * (prevRow t (fun i l => p (ix2 i l)) (fun l => v (ix2 0 l)) i l - p (ix2 i l)) := by
  pointwise [k0_pay2]
  rw [cmp_zero _ i.isLt, rem_zero]
  unfold prevRow
  by_cases hi : i.val = 0
  · by_cases ht : t.val % 4 = 0
    · simp only [hi, ht, if_true]; rfl
    · simp only [hi, ht, if_true, if_false]; rfl
  · have e : (⟨(i.val + 1024 - 1) % 1024, by omega⟩ : Fin 1024) = ⟨i.val - 1, by omega⟩ := Fin.ext (by show (i.val + 1024 - 1) % 1024 = i.val - 1; omega)
    simp only [hi, if_false, e]; rfl

end Cert.Hand.Proj

end
-- ==== Proof.ProjHost.lean ====
/- The arrays that the opening call's region finds, and the blocks its windows read of them. -/
module

public import proofs.«01_k».proof.Proof.ProjBlock

@[expose] public section

noncomputable section

namespace Cert.Hand.ProjHost

open Cert.Kernel2Ideal Cert.Kernel2Ideal.Gen Cert.Kernel2Ideal.Value Idealize.ShloMosaic Idealize.ShloMosaic.TcCoe Idealize.SL.Sem Cert.Hand Cert.Hand.Proj

variable (m : (ℓ : Loc nD τ sig) → Buf (Elt Ideal) ℓ) (c : Dev nD)

/-! ## The host's arrays as the region finds them -/

theorem V0 : (V m c main_v0 : V32 S32768x1024) = shapeCast S32768x1024 (m ((c : Thread nD τ).loc main_arg0)) shapeCasts_S8x4096x1024_S32768x1024 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl
theorem V13 : (V m c main_v13 : V32 S1x1024) = shapeCast S1x1024 (shapeCast S1024 (m ((c : Thread nD τ).loc main_arg1)) shapeCasts_S1x1024_S1024) shapeCasts_S1024_S1x1024 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl
theorem V6 : (V m c main_v6 : V16 S1024x1920) = pad S1024x1920 ![0, 0] ![0, 96] ![0, 0] (truncf (F := Ideal) .bf16 (extractStridedSlice S1024x1824 ![0, 0]
    (shapeCast S1024x5408 (m ((c : Thread nD τ).loc main_arg2)) shapeCasts_S1x1024x5408_S1024x5408) slices_S1024x5408_S1024x1824_0_0) bitsLt_bf16_f32)
    (sitofp (F := Ideal) .bf16 (constantI S_ 32 0#32)) pads_S1024x1824_S1024x1920_000_0960 h_S_ := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl
theorem V8 : (V m c main_v8 : V16 S1024x1536) = truncf (F := Ideal) .bf16 (extractStridedSlice S1024x1536 ![0, 1824]
    (shapeCast S1024x5408 (m ((c : Thread nD τ).loc main_arg2)) shapeCasts_S1x1024x5408_S1024x5408) slices_S1024x5408_S1024x1536_0_1824) bitsLt_bf16_f32 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl
theorem V10 : (V m c main_v10 : V16 S1024x2048) = truncf (F := Ideal) .bf16 (extractStridedSlice S1024x2048 ![0, 3360]
    (shapeCast S1024x5408 (m ((c : Thread nD τ).loc main_arg2)) shapeCasts_S1x1024x5408_S1024x5408) slices_S1024x5408_S1024x2048_0_3360) bitsLt_bf16_f32 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl
theorem V12 : (V m c main_v12 : V32 S1x1920) = shapeCast S1x1920 (pad S1920 ![0] ![96] ![0]
    (shapeCast S1824 (m ((c : Thread nD τ).loc main_arg3)) shapeCasts_S1x1824_S1824) (sitofp (F := Ideal) .f32 (constantI S_ 32 0#32)) pads_S1824_S1920_0960 h_S_) shapeCasts_S1920_S1x1920 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

/-! ## The blocks of the windows -/

/-- Row `i` of block `t`. -/
abbrev row (t : Fin cfg0.N) (i : Fin 1024) : Fin 32768 := ⟨1024 * t.val + i.val, by
  have hN : cfg0.N = 32 := N_0
  have := t.isLt; have := i.isLt; omega⟩

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)

theorem coord : ∀ t : Fin cfg0.N, ((grid0.coords t) 0).val = t.val := (by decide +kernel : ∀ t : Fin grid0.N, _)

theorem b0 (t : Fin cfg0.N) (i : Fin 1024) (k : Fin 1024) : (iblk m c 0 t : V32 S1024x1024) (ix2 i k) = V m c main_v0 (ix2 (row t i) k) := by
  obtain ⟨e0, e1⟩ := idx0 t
  show V m c main_v0 (((cfg0.win 0).blk t).view.emb (ix2 i k)) = _
  congr 1
  exact Shape.idx_ext₂ (by show win0_0.index t (0 : Fin 2) * 1024 + 1 * i.val = 1024 * t.val + i.val; omega)
    (by show win0_0.index t (1 : Fin 2) * 1024 + 1 * k.val = k.val; omega)
theorem b1 (t : Fin cfg0.N) : (iblk m c 1 t : V32 S1x1024) = V m c main_v13 := by
  obtain ⟨e0, e1⟩ := idx1 t
  funext j
  show V m c main_v13 (((cfg0.win 1).blk t).view.emb j) = _
  congr 1
  exact Shape.idx_ext₂ (by show win0_1.index t (0 : Fin 2) * 1 + 1 * (j 0).val = (j 0).val; omega)
    (by show win0_1.index t (1 : Fin 2) * 1024 + 1 * (j 1).val = (j 1).val; omega)
theorem b2 (t : Fin cfg0.N) : (iblk m c 2 t : V16 S1024x1920) = V m c main_v6 := by
  obtain ⟨e0, e1⟩ := idx2 t
  funext j
  show V m c main_v6 (((cfg0.win 2).blk t).view.emb j) = _
  congr 1
  exact Shape.idx_ext₂ (by show win0_2.index t (0 : Fin 2) * 1024 + 1 * (j 0).val = (j 0).val; omega)
    (by show win0_2.index t (1 : Fin 2) * 1920 + 1 * (j 1).val = (j 1).val; omega)
theorem b3 (t : Fin cfg0.N) : (iblk m c 3 t : V16 S1024x1536) = V m c main_v8 := by
  obtain ⟨e0, e1⟩ := idx3 t
  funext j
  show V m c main_v8 (((cfg0.win 3).blk t).view.emb j) = _
  congr 1
  exact Shape.idx_ext₂ (by show win0_3.index t (0 : Fin 2) * 1024 + 1 * (j 0).val = (j 0).val; omega)
    (by show win0_3.index t (1 : Fin 2) * 1536 + 1 * (j 1).val = (j 1).val; omega)
theorem b4 (t : Fin cfg0.N) : (iblk m c 4 t : V16 S1024x2048) = V m c main_v10 := by
  obtain ⟨e0, e1⟩ := idx4 t
  funext j
  show V m c main_v10 (((cfg0.win 4).blk t).view.emb j) = _
  congr 1
  exact Shape.idx_ext₂ (by show win0_4.index t (0 : Fin 2) * 1024 + 1 * (j 0).val = (j 0).val; omega)
    (by show win0_4.index t (1 : Fin 2) * 2048 + 1 * (j 1).val = (j 1).val; omega)
theorem b5 (t : Fin cfg0.N) : (iblk m c 5 t : V32 S1x1920) = V m c main_v12 := by
  obtain ⟨e0, e1⟩ := idx5 t
  funext j
  show V m c main_v12 (((cfg0.win 5).blk t).view.emb j) = _
  congr 1
  exact Shape.idx_ext₂ (by show win0_5.index t (0 : Fin 2) * 1 + 1 * (j 0).val = (j 0).val; omega)
    (by show win0_5.index t (1 : Fin 2) * 1920 + 1 * (j 1).val = (j 1).val; omega)

end Cert.Hand.ProjHost

end
-- ==== Proof.ProjRef.lean ====
/- What the plain program of the opening call computes, row by row. -/
module

public import proofs.«01_k».proof.Proof.Gen.Reference2Ideal.Run
public import proofs.«01_k».proof.Proof.Spec

@[expose] public section

noncomputable section

namespace Cert.Hand.ProjRef

open Cert.Reference2Ideal Cert.Reference2Ideal.Gen Cert.Reference2Ideal.Value Idealize.ShloMosaic Idealize.ShloMosaic.TcCoe Idealize.SL.Sem Cert.Hand

abbrev A32 (s : Shape) := FVec Ideal s .f32
abbrev A16 (s : Shape) := FVec Ideal s .bf16

/-- The normalised rows projected. -/
def refP (X : A32 S8x4096x1024) (g : A32 S1024) (W : A32 S1024x5408) : A32 S8x4096x5408 :=
  (Host.dotGeneral dot_S8x4096x1024_S1024x5408_S8x4096x5408_2_0_01_1_n_n none (mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))) W)

/-- The shifted columns, each row mixed with the row before it in its sequence, padded with zero columns. -/
def refShift (P : A32 S8x4096x5408) (mu : A32 S1824) : A32 S32768x1920 :=
  pad S32768x1920 ![0, 0] ![0, 96] ![0, 0] (shapeCast S32768x1824 (addf (extractStridedSlice S8x4096x1824 ![0, 0, 0] P slices_S8x4096x5408_S8x4096x1824_0_0_0) (mulf (broadcastInDim S8x4096x1824 ![0, 1, 2] bcast_S1x1x1824_S8x4096x1824_0_1_2 (broadcastInDim S1x1x1824 ![2] bcast_S1824_S1x1x1824_2 mu)) (subf (extractStridedSlice S8x4096x1824 ![0, 0, 0] (pad S8x4097x1824 ![0, 1, 0] ![0, 0, 0] ![0, 0, 0] (extractStridedSlice S8x4096x1824 ![0, 0, 0] P slices_S8x4096x5408_S8x4096x1824_0_0_0) (sitofp .f32 (constantI S_ 32 0#32)) pads_S8x4096x1824_S8x4097x1824_000_100_000 h_S_) slices_S8x4097x1824_S8x4096x1824_0_0_0) (extractStridedSlice S8x4096x1824 ![0, 0, 0] P slices_S8x4096x5408_S8x4096x1824_0_0_0)))) shapeCasts_S8x4096x1824_S32768x1824) (sitofp .f32 (constantI S_ 32 0#32)) pads_S32768x1824_S32768x1920_000_0960 h_S_

/-- The columns of the queries, keys and values. -/
def refQkv (P : A32 S8x4096x5408) : A16 S32768x1536 :=
  truncf .bf16 (shapeCast S32768x1536 (extractStridedSlice S8x4096x1536 ![0, 0, 1824] P slices_S8x4096x5408_S8x4096x1536_0_0_1824) shapeCasts_S8x4096x1536_S32768x1536) bitsLt_bf16_f32

/-- The columns of the gates. -/
def refGate (P : A32 S8x4096x5408) : A16 S32768x2048 :=
  truncf .bf16 (shapeCast S32768x2048 (extractStridedSlice S8x4096x2048 ![0, 0, 3360] P slices_S8x4096x5408_S8x4096x2048_0_0_3360) shapeCasts_S8x4096x2048_S32768x2048) bitsLt_bf16_f32

theorem refP_apply (X : A32 S8x4096x1024) (g : A32 S1024) (W : A32 S1024x5408) (b : Fin 8) (s : Fin 4096) (l : Fin 5408) :
    refP X g W (ix3 b s l) = dot (rms (fun k => X (ix3 b s k)) (fun k => g (ix1 k))) (fun k l => W (ix2 k l)) l := by
  pointwise [refP, dot, rms]

theorem refQkv_apply (P : A32 S8x4096x5408) (r : Fin 32768) (l : Fin 1536) :
    refQkv P (ix2 r l) = P (ix3 (⟨r.val / 4096, by omega⟩ : Fin 8) (⟨r.val % 4096, by omega⟩ : Fin 4096) (⟨1824 + l.val, by omega⟩ : Fin 5408)) := by
  pointwise [refQkv]

theorem refGate_apply (P : A32 S8x4096x5408) (r : Fin 32768) (l : Fin 2048) :
    refGate P (ix2 r l) = P (ix3 (⟨r.val / 4096, by omega⟩ : Fin 8) (⟨r.val % 4096, by omega⟩ : Fin 4096) (⟨3360 + l.val, by omega⟩ : Fin 5408)) := by
  pointwise [refGate]

/-- The word zero, as a number. -/
theorem zero_word : (FloatOps.sitofp (F := Ideal) FTy.f32 0#32 : EReal) = 0 := by
  show (((0#32 : BitVec 32).toInt : ℝ) : EReal) = 0
  simp

theorem refShift_apply (P : A32 S8x4096x5408) (mu : A32 S1824) (r : Fin 32768) (l : Fin 1920) :
    refShift P mu (ix2 r l) = if h : l.val < 1824 then
        P (ix3 (⟨r.val / 4096, by omega⟩ : Fin 8) (⟨r.val % 4096, by omega⟩ : Fin 4096) (⟨l.val, by omega⟩ : Fin 5408))
          + mu (ix1 (⟨l.val, h⟩ : Fin 1824))
            * ((if r.val % 4096 = 0 then 0 else
                P (ix3 (⟨r.val / 4096, by omega⟩ : Fin 8) (⟨r.val % 4096 - 1, by omega⟩ : Fin 4096) (⟨l.val, by omega⟩ : Fin 5408)))
              - P (ix3 (⟨r.val / 4096, by omega⟩ : Fin 8) (⟨r.val % 4096, by omega⟩ : Fin 4096) (⟨l.val, by omega⟩ : Fin 5408)))
      else 0 := by
  pointwise [refShift]
  by_cases h : l.val < 1824
  · refine Eq.trans (@dif_pos _ _ h _ _ _) (Eq.trans ?_ (@dif_pos _ _ h _ _ _).symm)
    refine congrArg (fun z : EReal => _ + _ * (z - _)) ?_
    by_cases hr : r.val % 4096 = 0
    · exact (@dif_neg _ _ (by omega) _ _ _).trans (zero_word.trans (if_pos hr).symm)
    · exact (@dif_pos _ _ (by omega) _ _ _).trans (if_neg hr).symm
  · refine Eq.trans (@dif_neg _ _ h _ _ _) (Eq.trans zero_word ?_)
    rw [dif_neg h]

variable (m : (ℓ : Loc nD τ sig) → Buf (Elt Ideal) ℓ) (ρ : Dev nD → PrngReg)

/-- The run, its results as those stages of the arguments. -/
theorem run : θ_run defs (onTc (τ := τ) (main (F := Ideal))) ⟨m, fun _ => 0, ρ⟩ fun r => ∀ c : Dev nD,
      r.2.mem ((c.tc : Thread nD τ).loc main_v28) = refShift (refP (m ((c.tc : Thread nD τ).loc main_arg0)) (shapeCast S1024 (m ((c.tc : Thread nD τ).loc main_arg1)) shapeCasts_S1x1024_S1024)
          (shapeCast S1024x5408 (m ((c.tc : Thread nD τ).loc main_arg2)) shapeCasts_S1x1024x5408_S1024x5408))
          (shapeCast S1824 (m ((c.tc : Thread nD τ).loc main_arg3)) shapeCasts_S1x1824_S1824)
      ∧ r.2.mem ((c.tc : Thread nD τ).loc main_v30) = refQkv (refP (m ((c.tc : Thread nD τ).loc main_arg0)) (shapeCast S1024 (m ((c.tc : Thread nD τ).loc main_arg1)) shapeCasts_S1x1024_S1024)
          (shapeCast S1024x5408 (m ((c.tc : Thread nD τ).loc main_arg2)) shapeCasts_S1x1024x5408_S1024x5408))
      ∧ r.2.mem ((c.tc : Thread nD τ).loc main_v32) = refGate (refP (m ((c.tc : Thread nD τ).loc main_arg0)) (shapeCast S1024 (m ((c.tc : Thread nD τ).loc main_arg1)) shapeCasts_S1x1024_S1024)
          (shapeCast S1024x5408 (m ((c.tc : Thread nD τ).loc main_arg2)) shapeCasts_S1x1024x5408_S1024x5408))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference2Ideal.Value.run (F := Ideal) m ρ

end Cert.Hand.ProjRef

end
-- ==== Proof.ProjValue.lean ====
/- The opening call's three results, row by row: block `t` holds the rows 1024 t to 1024 t + 1023; the shifted columns of a
   tile's first row take the row carried over from the tile before. The plain program's results are the same. -/
module

public import proofs.«01_k».proof.Proof.ProjHost
public import proofs.«01_k».proof.Proof.ProjRef

@[expose] public section

noncomputable section

namespace Cert.Hand.ProjValue

open Cert.Kernel2Ideal Cert.Kernel2Ideal.Gen Cert.Kernel2Ideal.Value Idealize.ShloMosaic Idealize.ShloMosaic.TcCoe Idealize.SL.Sem Cert.Hand Cert.Hand.Proj Cert.Hand.ProjHost

variable (m : (ℓ : Loc nD τ sig) → Buf (Elt Ideal) ℓ) (c : Dev nD)

/-! ## The whole results -/

/-- Row `r` projected by a weight `w`. -/
def prow {n : ℕ} (w : Fin 1024 → Fin n → EReal) (r : Fin 32768) : Fin n → EReal :=
  dot (rms (fun k => V m c main_v0 (ix2 r k)) (fun k => V m c main_v13 (ix2 0 k))) w

/-- Row `r` of the shifted columns' projection. -/
abbrev sprow (r : Fin 32768) : Fin 1920 → EReal := prow m c (fun k l => V m c main_v6 (ix2 k l)) r

/-- The mixing weights of the shifted columns. -/
def mu (l : Fin 1920) : EReal := (V m c main_v12 : V32 S1x1920) (ix2 0 l)

/-- Row `r` of the first result: the row mixed with the row before it in its sequence. -/
def Srow (r : Fin 32768) (l : Fin 1920) : EReal :=
  sprow m c r l + mu m c l * ((if r.val % 4096 = 0 then 0 else sprow m c ⟨r.val - 1, by omega⟩ l) - sprow m c r l)

/-- The three results as functions of the arrays the region finds. -/
def G6 : V32 S32768x1920 := fun j => Srow m c (j 0) (j 1)
def G7 : V16 S32768x1536 := fun j => prow m c (fun k l => V m c main_v8 (ix2 k l)) (j 0) (j 1)
def G8 : V16 S32768x2048 := fun j => prow m c (fun k l => V m c main_v10 (ix2 k l)) (j 0) (j 1)

theorem projRow_eq {n : ℕ} (w : Fin 1024 → Fin n → EReal) (t : Fin cfg0.N) (i : Fin 1024) :
    projRow (iblk m c 0 t : V32 S1024x1024) (iblk m c 1 t : V32 S1x1024) w i = prow m c w (row t i) := by
  unfold projRow prow
  rw [b1]
  simp only [b0]

/-- What a tile leaves for the next: its last row's projection. -/
theorem carried (t : Fin cfg0.N) (l : Fin 1920) :
    (outsAt0 m c t.val t.isLt).2.2.2 (ix2 0 l) = sprow m c (row t 1023) l := by
  have e : k0_pay1 (F := Ideal) (k0_pay7 (F := Ideal) (iblk m c 0 t) (iblk m c 1 t) (iblk m c 2 t)) (ix2 0 l) = sprow m c (row t 1023) l := by
    rw [Proj.p1, Proj.p7, projRow_eq, b2]
  by_cases h : t.val % 32 = 0
  · rw [outsAt0_A m c t h]
    dsimp only
    refine Eq.trans (soutA _ _ _ _ _ _ _ _ _ _ _ _ _ _ _ _ _ _ _ _ _ _ _ _ _ _ _ _ _ l) ?_
    exact e
  · rw [outsAt0_B m c t h]
    dsimp only
    refine Eq.trans (soutB _ _ _ _ _ _ _ _ _ _ _ _ _ _ _ _ _ _ _ _ _ _ _ _ _ _ _ _ _ _ l) ?_
    exact e

theorem out7 (t : Fin cfg0.N) (i : Fin 1024) (l : Fin 1536) :
    (outsAt0 m c t.val t.isLt).2.1 (ix2 i l) = G7 m c (ix2 (row t i) l) := by
  have e : k0_pay5 (F := Ideal) (iblk m c 0 t) (iblk m c 1 t) (iblk m c 3 t) (ix2 i l) = G7 m c (ix2 (row t i) l) := by
    rw [p5, projRow_eq, b3]; rfl
  by_cases h : t.val % 32 = 0
  · rw [outsAt0_A m c t h]
    dsimp only
    refine Eq.trans (congrFun (outA7 _ _ _ _ _ _ _ _ _ _ _ _ _ _ _ _ _ _ _ _ _ _ _ _ _ _ _ _ _) _) ?_
    exact e
  · rw [outsAt0_B m c t h]
    dsimp only
    refine Eq.trans (congrFun (outB7 _ _ _ _ _ _ _ _ _ _ _ _ _ _ _ _ _ _ _ _ _ _ _ _ _ _ _ _ _ _) _) ?_
    exact e

theorem out8 (t : Fin cfg0.N) (i : Fin 1024) (l : Fin 2048) :
    (outsAt0 m c t.val t.isLt).2.2.1 (ix2 i l) = G8 m c (ix2 (row t i) l) := by
  have e : k0_pay6 (F := Ideal) (iblk m c 0 t) (iblk m c 1 t) (iblk m c 4 t) (ix2 i l) = G8 m c (ix2 (row t i) l) := by
    rw [p6, projRow_eq, b4]; rfl
  by_cases h : t.val % 32 = 0
  · rw [outsAt0_A m c t h]
    dsimp only
    refine Eq.trans (congrFun (outA8 _ _ _ _ _ _ _ _ _ _ _ _ _ _ _ _ _ _ _ _ _ _ _ _ _ _ _ _ _) _) ?_
    exact e
  · rw [outsAt0_B m c t h]
    dsimp only
    refine Eq.trans (congrFun (outB8 _ _ _ _ _ _ _ _ _ _ _ _ _ _ _ _ _ _ _ _ _ _ _ _ _ _ _ _ _ _) _) ?_
    exact e

/-- The tile's rows of the shifted columns, the carried row being right where it is read. -/
theorem shift_row (t : Fin cfg0.N) (v : V32 S1x1920) (hv : t.val % 4 ≠ 0 → ∀ l, v (ix2 0 l) = sprow m c ⟨1024 * t.val - 1, by
      have hN : cfg0.N = 32 := N_0
      have := t.isLt; omega⟩ l) (i : Fin 1024) (l : Fin 1920) :
    k0_pay2 (F := Ideal) (BitVec.ofNat 32 ((grid0.coords t) 0).val) (k0_pay7 (F := Ideal) (iblk m c 0 t) (iblk m c 1 t) (iblk m c 2 t)) 4#32 v
      (iblk m c 5 t) (ix2 i l) = G6 m c (ix2 (row t i) l) := by
  have hN : cfg0.N = 32 := N_0
  rw [coord]
  refine (Proj.p2 _ ⟨t.val, hN ▸ t.isLt⟩ _ v i l).trans ?_
  show _ = Srow m c (row t i) l
  unfold Srow prevRow
  simp only [p7, projRow_eq]
  rw [b2, b5]
  congr 3
  by_cases hi : i.val = 0
  · rw [if_pos hi]
    by_cases ht : t.val % 4 = 0
    · rw [if_pos ht, if_pos (by show (1024 * t.val + i.val) % 4096 = 0; omega)]
    · rw [if_neg ht, if_neg (by show ¬ (1024 * t.val + i.val) % 4096 = 0; omega), hv ht]
      congr 1
      exact Fin.ext (by show 1024 * t.val - 1 = 1024 * t.val + i.val - 1; omega)
  · rw [if_neg hi, if_neg (by show ¬ (1024 * t.val + i.val) % 4096 = 0; omega)]
    congr 1
    exact Fin.ext (by show 1024 * t.val + (i.val - 1) = 1024 * t.val + i.val - 1; omega)

theorem out6 (t : Fin cfg0.N) (i : Fin 1024) (l : Fin 1920) :
    (outsAt0 m c t.val t.isLt).1 (ix2 i l) = G6 m c (ix2 (row t i) l) := by
  have hN : cfg0.N = 32 := N_0
  by_cases h : t.val % 32 = 0
  · rw [outsAt0_A m c t h]
    obtain ⟨v, e⟩ := outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (iblk m c 0 t) (iblk m c 1 t) (iblk m c 2 t) (iblk m c 3 t) (iblk m c 4 t) (iblk m c 5 t) ((hcond0_0 t).mpr h)
    dsimp only
    refine Eq.trans (congrFun e _) ?_
    exact (shift_row m c t v (fun h' => absurd (by omega) h') i l)
  · rw [outsAt0_B m c t h]
    dsimp only
    refine Eq.trans (congrFun (outB6 _ _ _ _ _ _ _ _ _ _ _ _ _ _ _ _ _ _ _ _ _ _ _ _ _ _ _ _ _ _) _) ?_
    refine (shift_row m c t _ (fun _ l => ?_) i l)
    have hp : t.val - 1 < cfg0.N := by omega
    have e := carried m c ⟨t.val - 1, hp⟩ l
    refine Eq.trans ?_ (e.trans ?_)
    · show (outsAt0 m c (t.val - 1) _).2.2.2 ((Rect.unit (s := S8x1920) ![0, 0] S1x1920.size inb_S8x1920_S1x1920_0_0).emb (ix2 0 l)) = _
      have ee : (Rect.unit (s := S8x1920) ![0, 0] S1x1920.size inb_S8x1920_S1x1920_0_0).emb (ix2 0 l) = (ix2 0 l : S8x1920.Idx) :=
        Shape.idx_ext₂ rfl (by show 0 + 1 * l.val = l.val; omega)
      rw [ee]
    · congr 1
      exact Fin.ext (by show 1024 * (t.val - 1) + 1023 = 1024 * t.val - 1; have : t.val ≠ 0 := fun e => h (by omega); omega)

theorem flushed6_eq (t : Fin cfg0.N) :
    (dats m 0 c).flushed 6 t = ((cfg0.win 6).blk t).view.read (Elt Ideal) (G6 m c) := by
  rw [flushed6]
  obtain ⟨e0, e1⟩ := idx6 t
  have ej : ∀ (i : Fin 1024) (l : Fin 1920), ((cfg0.win 6).blk t).view.emb (ix2 i l : S1024x1920.Idx) = (ix2 (row t i) l : S32768x1920.Idx) := fun i l =>
    Shape.idx_ext₂ (by show win0_6.index t (0 : Fin 2) * 1024 + 1 * i.val = 1024 * t.val + i.val; omega)
      (by show win0_6.index t (1 : Fin 2) * 1920 + 1 * l.val = l.val; omega)
  have key : ∀ j : S1024x1920.Idx, (outsAt0 m c t.val t.isLt).1 j = G6 m c (((cfg0.win 6).blk t).view.emb j) := by
    intro j
    obtain ⟨i, l, rfl⟩ : ∃ (i : Fin 1024) (l : Fin 1920), j = ix2 i l := ⟨j 0, j 1, Shape.idx_ext₂ rfl rfl⟩
    rw [ej]
    exact out6 m c t i l
  exact funext key

theorem covered6 (i : S32768x1920.Idx) :
    ∃ t : Fin cfg0.N, (cfg0.win 6).flush t = true ∧ i ∈ ((cfg0.win 6).blk t).view.set := by
  have h0 : (i 0 : Nat) < 32768 := (i 0).isLt
  have hN : cfg0.N = 32 := N_0
  refine ⟨⟨(i 0 : Nat) / 1024, by omega⟩, flush0_6 _, ?_⟩
  generalize ht : (⟨(i 0 : Nat) / 1024, by omega⟩ : Fin cfg0.N) = t
  have hv : t.val = (i 0 : Nat) / 1024 := by rw [← ht]
  obtain ⟨e0, e1⟩ := idx6 t
  have e : i = ((cfg0.win 6).blk t).view.emb (ix2 (⟨(i 0 : Nat) % 1024, by omega⟩ : Fin 1024) (i 1) : S1024x1920.Idx) :=
    Shape.idx_ext₂ (by show (i 0 : Nat) = win0_6.index t (0 : Fin 2) * 1024 + 1 * ((i 0 : Nat) % 1024); omega)
      (by show (i 1 : Nat) = win0_6.index t (1 : Fin 2) * 1920 + 1 * (i 1 : Nat); omega)
  rw [e]
  exact ((cfg0.win 6).blk t).view.emb_mem_set _

/-- So the result array after the run is that function. -/
theorem final6 : (dats m 0 c).arrAt 6 cfg0.N = G6 m c :=
  (dats m 0 c).arrAt_eq_of_cover 6 (G6 m c) (fun t _ => flushed6_eq m c t) covered6

theorem flushed7_eq (t : Fin cfg0.N) :
    (dats m 0 c).flushed 7 t = ((cfg0.win 7).blk t).view.read (Elt Ideal) (G7 m c) := by
  rw [flushed7]
  obtain ⟨e0, e1⟩ := idx7 t
  have ej : ∀ (i : Fin 1024) (l : Fin 1536), ((cfg0.win 7).blk t).view.emb (ix2 i l : S1024x1536.Idx) = (ix2 (row t i) l : S32768x1536.Idx) := fun i l =>
    Shape.idx_ext₂ (by show win0_7.index t (0 : Fin 2) * 1024 + 1 * i.val = 1024 * t.val + i.val; omega)
      (by show win0_7.index t (1 : Fin 2) * 1536 + 1 * l.val = l.val; omega)
  have key : ∀ j : S1024x1536.Idx, (outsAt0 m c t.val t.isLt).2.1 j = G7 m c (((cfg0.win 7).blk t).view.emb j) := by
    intro j
    obtain ⟨i, l, rfl⟩ : ∃ (i : Fin 1024) (l : Fin 1536), j = ix2 i l := ⟨j 0, j 1, Shape.idx_ext₂ rfl rfl⟩
    rw [ej]
    exact out7 m c t i l
  exact funext key

theorem covered7 (i : S32768x1536.Idx) :
    ∃ t : Fin cfg0.N, (cfg0.win 7).flush t = true ∧ i ∈ ((cfg0.win 7).blk t).view.set := by
  have h0 : (i 0 : Nat) < 32768 := (i 0).isLt
  have hN : cfg0.N = 32 := N_0
  refine ⟨⟨(i 0 : Nat) / 1024, by omega⟩, flush0_7 _, ?_⟩
  generalize ht : (⟨(i 0 : Nat) / 1024, by omega⟩ : Fin cfg0.N) = t
  have hv : t.val = (i 0 : Nat) / 1024 := by rw [← ht]
  obtain ⟨e0, e1⟩ := idx7 t
  have e : i = ((cfg0.win 7).blk t).view.emb (ix2 (⟨(i 0 : Nat) % 1024, by omega⟩ : Fin 1024) (i 1) : S1024x1536.Idx) :=
    Shape.idx_ext₂ (by show (i 0 : Nat) = win0_7.index t (0 : Fin 2) * 1024 + 1 * ((i 0 : Nat) % 1024); omega)
      (by show (i 1 : Nat) = win0_7.index t (1 : Fin 2) * 1536 + 1 * (i 1 : Nat); omega)
  rw [e]
  exact ((cfg0.win 7).blk t).view.emb_mem_set _

/-- So the result array after the run is that function. -/
theorem final7 : (dats m 0 c).arrAt 7 cfg0.N = G7 m c :=
  (dats m 0 c).arrAt_eq_of_cover 7 (G7 m c) (fun t _ => flushed7_eq m c t) covered7

theorem flushed8_eq (t : Fin cfg0.N) :
    (dats m 0 c).flushed 8 t = ((cfg0.win 8).blk t).view.read (Elt Ideal) (G8 m c) := by
  rw [flushed8]
  obtain ⟨e0, e1⟩ := idx8 t
  have ej : ∀ (i : Fin 1024) (l : Fin 2048), ((cfg0.win 8).blk t).view.emb (ix2 i l : S1024x2048.Idx) = (ix2 (row t i) l : S32768x2048.Idx) := fun i l =>
    Shape.idx_ext₂ (by show win0_8.index t (0 : Fin 2) * 1024 + 1 * i.val = 1024 * t.val + i.val; omega)
      (by show win0_8.index t (1 : Fin 2) * 2048 + 1 * l.val = l.val; omega)
  have key : ∀ j : S1024x2048.Idx, (outsAt0 m c t.val t.isLt).2.2.1 j = G8 m c (((cfg0.win 8).blk t).view.emb j) := by
    intro j
    obtain ⟨i, l, rfl⟩ : ∃ (i : Fin 1024) (l : Fin 2048), j = ix2 i l := ⟨j 0, j 1, Shape.idx_ext₂ rfl rfl⟩
    rw [ej]
    exact out8 m c t i l
  exact funext key

theorem covered8 (i : S32768x2048.Idx) :
    ∃ t : Fin cfg0.N, (cfg0.win 8).flush t = true ∧ i ∈ ((cfg0.win 8).blk t).view.set := by
  have h0 : (i 0 : Nat) < 32768 := (i 0).isLt
  have hN : cfg0.N = 32 := N_0
  refine ⟨⟨(i 0 : Nat) / 1024, by omega⟩, flush0_8 _, ?_⟩
  generalize ht : (⟨(i 0 : Nat) / 1024, by omega⟩ : Fin cfg0.N) = t
  have hv : t.val = (i 0 : Nat) / 1024 := by rw [← ht]
  obtain ⟨e0, e1⟩ := idx8 t
  have e : i = ((cfg0.win 8).blk t).view.emb (ix2 (⟨(i 0 : Nat) % 1024, by omega⟩ : Fin 1024) (i 1) : S1024x2048.Idx) :=
    Shape.idx_ext₂ (by show (i 0 : Nat) = win0_8.index t (0 : Fin 2) * 1024 + 1 * ((i 0 : Nat) % 1024); omega)
      (by show (i 1 : Nat) = win0_8.index t (1 : Fin 2) * 2048 + 1 * (i 1 : Nat); omega)
  rw [e]
  exact ((cfg0.win 8).blk t).view.emb_mem_set _

/-- So the result array after the run is that function. -/
theorem final8 : (dats m 0 c).arrAt 8 cfg0.N = G8 m c :=
  (dats m 0 c).arrAt_eq_of_cover 8 (G8 m c) (fun t _ => flushed8_eq m c t) covered8

end Cert.Hand.ProjValue

end
-- ==== Proof.ProjAgree.lean ====
/- The opening call's two programs agree: each result of the kernel, as a function of the arguments, is the plain program's. -/
module

public import proofs.«01_k».proof.Proof.ProjValue
public import proofs.«01_k».proof.Proof.ProjRef

@[expose] public section

noncomputable section

namespace Cert.Hand.ProjAgree

open Cert.Kernel2Ideal Cert.Kernel2Ideal.Gen Idealize.ShloMosaic Idealize.ShloMosaic.TcCoe Idealize.SL.Sem Cert.Hand Cert.Hand.Proj Cert.Hand.ProjHost Cert.Hand.ProjValue

variable (m : (ℓ : Loc nD τ sig) → Buf (Elt Ideal) ℓ) (c : Dev nD)

/-- The arguments, as the plain program takes them. -/
abbrev X : V32 S8x4096x1024 := m ((c : Thread nD τ).loc main_arg0)
abbrev gw : V32 S1024 := shapeCast S1024 (m ((c : Thread nD τ).loc main_arg1) : V32 S1x1024) shapeCasts_S1x1024_S1024
abbrev W : V32 S1024x5408 := shapeCast S1024x5408 (m ((c : Thread nD τ).loc main_arg2) : V32 S1x1024x5408) shapeCasts_S1x1024x5408_S1024x5408
abbrev muw : V32 S1824 := shapeCast S1824 (m ((c : Thread nD τ).loc main_arg3) : V32 S1x1824) shapeCasts_S1x1824_S1824

/-! ## The host's layouts at an index -/

theorem rows_apply (x : V32 S8x4096x1024) (r : Fin 32768) (k : Fin 1024) : shapeCast S32768x1024 x shapeCasts_S8x4096x1024_S32768x1024 (ix2 r k)
    = x (ix3 (⟨r.val / 4096, by omega⟩ : Fin 8) (⟨r.val % 4096, by omega⟩ : Fin 4096) k) := by
  pointwise

theorem gain_apply (g : V32 S1024) (k : Fin 1024) : shapeCast S1x1024 g shapeCasts_S1024_S1x1024 (ix2 0 k) = g (ix1 k) := by
  pointwise

theorem qkv_apply (w : V32 S1024x5408) (k : Fin 1024) (l : Fin 1536) :
    truncf (F := Ideal) .bf16 (extractStridedSlice S1024x1536 ![0, 1824] w slices_S1024x5408_S1024x1536_0_1824) bitsLt_bf16_f32 (ix2 k l)
      = w (ix2 k (⟨1824 + l.val, by omega⟩ : Fin 5408)) := by
  pointwise

theorem gate_apply (w : V32 S1024x5408) (k : Fin 1024) (l : Fin 2048) :
    truncf (F := Ideal) .bf16 (extractStridedSlice S1024x2048 ![0, 3360] w slices_S1024x5408_S1024x2048_0_3360) bitsLt_bf16_f32 (ix2 k l)
      = w (ix2 k (⟨3360 + l.val, by omega⟩ : Fin 5408)) := by
  pointwise

theorem zero_word16 : (FloatOps.sitofp (F := Ideal) FTy.bf16 0#32 : EReal) = 0 := by
  show (((0#32 : BitVec 32).toInt : ℝ) : EReal) = 0
  simp

theorem shift_apply (w : V32 S1024x5408) (k : Fin 1024) (l : Fin 1920) :
    pad S1024x1920 ![0, 0] ![0, 96] ![0, 0] (truncf (F := Ideal) .bf16 (extractStridedSlice S1024x1824 ![0, 0] w slices_S1024x5408_S1024x1824_0_0) bitsLt_bf16_f32)
      (sitofp (F := Ideal) .bf16 (constantI S_ 32 0#32)) pads_S1024x1824_S1024x1920_000_0960 h_S_ (ix2 k l)
      = if l.val < 1824 then w (ix2 k (⟨l.val, by omega⟩ : Fin 5408)) else 0 := by
  pointwise
  by_cases h : l.val < 1824
  · exact Eq.trans (@dif_pos _ _ h _ _ _) (if_pos h).symm
  · exact Eq.trans (@dif_neg _ _ h _ _ _) (Eq.trans zero_word16 (if_neg h).symm)

theorem mu_apply (v : V32 S1824) (l : Fin 1920) :
    shapeCast S1x1920 (pad S1920 ![0] ![96] ![0] v (sitofp (F := Ideal) .f32 (constantI S_ 32 0#32)) pads_S1824_S1920_0960 h_S_) shapeCasts_S1920_S1x1920 (ix2 0 l)
      = if h : l.val < 1824 then v (ix1 (⟨l.val, h⟩ : Fin 1824)) else 0 := by
  pointwise
  by_cases h : l.val < 1824
  · refine Eq.trans (@dif_pos _ _ h _ _ _) ?_
    rw [dif_pos h]
  · refine Eq.trans (@dif_neg _ _ h _ _ _) (Eq.trans ProjRef.zero_word ?_)
    rw [dif_neg h]

/-! ## The results as functions of the arguments -/

/-- Entry `l` of row `r` projected by the whole weight. -/
def P (r : Fin 32768) (l : Fin 5408) : EReal :=
  dot (rms (fun k => X m c (ix3 (⟨r.val / 4096, by omega⟩ : Fin 8) (⟨r.val % 4096, by omega⟩ : Fin 4096) k)) (fun k => gw m c (ix1 k)))
    (fun k l => W m c (ix2 k l)) l

theorem normed (r : Fin 32768) {n : ℕ} (w : Fin 1024 → Fin n → EReal) :
    prow m c w r = dot (rms (fun k => X m c (ix3 (⟨r.val / 4096, by omega⟩ : Fin 8) (⟨r.val % 4096, by omega⟩ : Fin 4096) k)) (fun k => gw m c (ix1 k))) w := by
  unfold prow
  have e0 : (fun k : Fin 1024 => (V m c main_v0 : V32 S32768x1024) (ix2 r k))
      = fun k => X m c (ix3 (⟨r.val / 4096, by omega⟩ : Fin 8) (⟨r.val % 4096, by omega⟩ : Fin 4096) k) := funext fun k => by
    rw [V0]; exact rows_apply _ r k
  have e1 : (fun k : Fin 1024 => (V m c main_v13 : V32 S1x1024) (ix2 0 k)) = fun k => gw m c (ix1 k) := funext fun k => by
    rw [V13]; exact gain_apply _ k
  rw [e0, e1]

theorem G7_eq (r : Fin 32768) (l : Fin 1536) : G7 m c (ix2 r l) = P m c r ⟨1824 + l.val, by omega⟩ := by
  show prow m c (fun k l => V m c main_v8 (ix2 k l)) r l = _
  rw [normed]
  have e : (fun (k : Fin 1024) (l : Fin 1536) => (V m c main_v8 : V16 S1024x1536) (ix2 k l))
      = fun k l => W m c (ix2 k (⟨1824 + l.val, by omega⟩ : Fin 5408)) := funext fun k => funext fun l => by
    rw [V8]; exact qkv_apply _ k l
  rw [e]; rfl

theorem G8_eq (r : Fin 32768) (l : Fin 2048) : G8 m c (ix2 r l) = P m c r ⟨3360 + l.val, by omega⟩ := by
  show prow m c (fun k l => V m c main_v10 (ix2 k l)) r l = _
  rw [normed]
  have e : (fun (k : Fin 1024) (l : Fin 2048) => (V m c main_v10 : V16 S1024x2048) (ix2 k l))
      = fun k l => W m c (ix2 k (⟨3360 + l.val, by omega⟩ : Fin 5408)) := funext fun k => funext fun l => by
    rw [V10]; exact gate_apply _ k l
  rw [e]; rfl

/-- A shifted column of the projection; the padded columns are zero. -/
theorem sprow_eq (r : Fin 32768) (l : Fin 1920) : sprow m c r l = if l.val < 1824 then P m c r ⟨l.val, by omega⟩ else 0 := by
  show prow m c (fun k l => V m c main_v6 (ix2 k l)) r l = _
  rw [normed]
  have e : (fun (k : Fin 1024) (l : Fin 1920) => (V m c main_v6 : V16 S1024x1920) (ix2 k l))
      = fun k l => if l.val < 1824 then W m c (ix2 k (⟨l.val, by omega⟩ : Fin 5408)) else 0 := funext fun k => funext fun l => by
    rw [V6]; exact shift_apply _ k l
  rw [e]
  by_cases h : l.val < 1824
  · rw [if_pos h]
    unfold P dot
    simp only [h, if_true]
  · rw [if_neg h]
    unfold dot
    simp only [h, if_false, mul_zero, Finset.sum_const_zero]

theorem mu_eq (l : Fin 1920) : mu m c l = if h : l.val < 1824 then muw m c (ix1 (⟨l.val, h⟩ : Fin 1824)) else 0 := by
  unfold mu
  rw [V12]; exact mu_apply _ l

theorem G6_eq (r : Fin 32768) (l : Fin 1920) : G6 m c (ix2 r l) = if h : l.val < 1824 then
      P m c r ⟨l.val, by omega⟩ + muw m c (ix1 (⟨l.val, h⟩ : Fin 1824))
        * ((if r.val % 4096 = 0 then 0 else P m c ⟨r.val - 1, by omega⟩ ⟨l.val, by omega⟩) - P m c r ⟨l.val, by omega⟩)
    else 0 := by
  show Srow m c r l = _
  unfold Srow
  rw [mu_eq, sprow_eq, sprow_eq]
  by_cases h : l.val < 1824
  · simp only [h, if_true, dif_pos]
  · simp only [h, if_false, dif_neg, not_false_eq_true, zero_mul, add_zero]

/-! ## The plain program's results -/

/-- The plain program's projection of the same arguments. -/
abbrev RP : V32 Cert.Reference2Ideal.S8x4096x5408 := ProjRef.refP (X m c) (gw m c) (W m c)

theorem RP_apply (r : Fin 32768) (l : Fin 5408) :
    RP m c (ix3 (⟨r.val / 4096, by omega⟩ : Fin 8) (⟨r.val % 4096, by omega⟩ : Fin 4096) l) = P m c r l :=
  ProjRef.refP_apply _ _ _ _ _ l

/-- The row before, within a sequence. -/
theorem RP_prev (r : Fin 32768) (l : Fin 5408) (h : ¬ r.val % 4096 = 0) :
    RP m c (ix3 (⟨r.val / 4096, by omega⟩ : Fin 8) (⟨r.val % 4096 - 1, by omega⟩ : Fin 4096) l) = P m c ⟨r.val - 1, by omega⟩ l := by
  have e := RP_apply m c ⟨r.val - 1, by omega⟩ l
  rw [← e]
  congr 2
  · exact Fin.ext (by show r.val / 4096 = (r.val - 1) / 4096; omega)
  · exact Fin.ext (by show r.val % 4096 - 1 = (r.val - 1) % 4096; omega)

theorem shift_agree : ProjRef.refShift (RP m c) (muw m c) = G6 m c := by
  funext j
  obtain ⟨r, l, rfl⟩ : ∃ (r : Fin 32768) (l : Fin 1920), j = ix2 r l := ⟨j 0, j 1, Shape.idx_ext₂ rfl rfl⟩
  refine (ProjRef.refShift_apply _ _ r l).trans ((G6_eq m c r l).symm ▸ ?_)
  by_cases h : l.val < 1824
  · rw [dif_pos h, dif_pos h, RP_apply]
    by_cases hr : r.val % 4096 = 0
    · rw [if_pos hr, if_pos hr]
    · rw [if_neg hr, if_neg hr, RP_prev m c r _ hr]
  · rw [dif_neg h, dif_neg h]

theorem qkv_agree : ProjRef.refQkv (RP m c) = G7 m c := by
  funext j
  obtain ⟨r, l, rfl⟩ : ∃ (r : Fin 32768) (l : Fin 1536), j = ix2 r l := ⟨j 0, j 1, Shape.idx_ext₂ rfl rfl⟩
  exact (ProjRef.refQkv_apply _ r l).trans ((RP_apply m c r _).trans (G7_eq m c r l).symm)

theorem gate_agree : ProjRef.refGate (RP m c) = G8 m c := by
  funext j
  obtain ⟨r, l, rfl⟩ : ∃ (r : Fin 32768) (l : Fin 2048), j = ix2 r l := ⟨j 0, j 1, Shape.idx_ext₂ rfl rfl⟩
  exact (ProjRef.refGate_apply _ r l).trans ((RP_apply m c r _).trans (G8_eq m c r l).symm)

end Cert.Hand.ProjAgree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.PostValue
public import proofs.«01_k».proof.Proof.ProjAgree
public import Idealize.ShloMosaic.Adequacy
public import Idealize.ShloMosaic.Init

@[expose] public section

noncomputable section

namespace Cert.Proof
open Idealize.ShloMosaic Idealize.SL.Sem Cert.Kernel

/-- The frame of the first reference: its run read at its arguments; it declares no semaphore. -/
theorem frame_r : Cert.quiescent_ReferenceIdeal := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- The frame of the second reference, in the same way. -/
theorem frame_r2 : Cert.quiescent_Reference2Ideal := fun m ρ _ =>
  (θ_run Cert.Reference2Ideal.defs _ _).mono (fun r h => ⟨fun c => (h c).2.2.2,
    Idealize.ShloMosaic.sem_eq_zero_of_no_sems (by decide) r.2⟩) (Cert.Hand.ProjRef.run m ρ)

/-- The layer's output: the call and the plain reference end with the array `PostValue.G`. -/
theorem post_value : Cert.algebraic_KernelIdeal_ReferenceIdeal := by
  intro m g m' g' _ h
  refine ⟨fun c => Cert.Hand.PostValue.G m c, ?_, ?_⟩
  · exact (θ_run Cert.KernelIdeal.defs _ _).mono
      (fun r hr c => ⟨(hr c).1.trans (Cert.Hand.PostValue.final m c), (hr c).2⟩)
      (Cert.KernelIdeal.Value.run_blocks m g)
  · refine (θ_run Cert.ReferenceIdeal.defs _ _).mono
      (fun r hr c => ⟨(hr c).1.trans ?_, (hr c).2⟩) (Cert.ReferenceIdeal.Value.run (F := Ideal) m' g')
    obtain ⟨h0, h1, h2, h3, h4, h5, h6, h7, h8, h9, h10⟩ := h c
    exact Cert.Hand.PostValue.agree m c m' h0 h1 h2 h3 h4 h5 h6 h7 h8 h9 h10

/-- The projections: the call and the plain reference end with the three arrays `ProjValue.G6`, `G7`, `G8`. -/
theorem proj_value : Cert.algebraic_Kernel2Ideal_Reference2Ideal := by
  intro m g m' g' _ h
  refine ⟨fun c => Cert.Hand.ProjValue.G6 m c, fun c => Cert.Hand.ProjValue.G7 m c, fun c => Cert.Hand.ProjValue.G8 m c, ?_, ?_⟩
  · exact (θ_run Cert.Kernel2Ideal.defs _ _).mono
      (fun r hr c => ⟨(hr c).1.trans (Cert.Hand.ProjValue.final6 m c), (hr c).2.1.trans (Cert.Hand.ProjValue.final7 m c),
        (hr c).2.2.1.trans (Cert.Hand.ProjValue.final8 m c), (hr c).2.2.2⟩)
      (Cert.Kernel2Ideal.Value.run_blocks m g)
  · refine (θ_run Cert.Reference2Ideal.defs _ _).mono
      (fun r hr c => ⟨(hr c).1.trans ?_, (hr c).2.1.trans ?_, (hr c).2.2.1.trans ?_, (hr c).2.2.2⟩) (Cert.Hand.ProjRef.run m' g')
    all_goals
      obtain ⟨h0, h1, h2, h3⟩ := h c
      rw [h0, h1, h2]
    · rw [h3]
      exact Cert.Hand.ProjAgree.shift_agree m c
    · exact Cert.Hand.ProjAgree.qkv_agree m c
    · exact Cert.Hand.ProjAgree.gate_agree m c

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts,
  fun m ρ _ => Cert.Kernel.Gen.frame m ρ, fun m ρ _ => Cert.KernelIdeal.Gen.frame m ρ, frame_r,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ,
  trivial, post_value, trivial, proj_value, trivial⟩

end Cert.Proof

end
